-- ==== Defs.lean ====
def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwQkv (m : (ℓ : Loc Cert.DwQkv.nD Cert.DwQkv.τ Cert.DwQkv.sig) → Buf (Elt Bits) ℓ) : Prop :=
  True

def Pre_DwQkvIdeal (m : (ℓ : Loc Cert.DwQkvIdeal.nD Cert.DwQkvIdeal.τ Cert.DwQkvIdeal.sig) → Buf (Elt Ideal) ℓ) : Prop :=
  True

def Pre_DwQkvRefIdeal (m : (ℓ : Loc Cert.DwQkvRefIdeal.nD Cert.DwQkvRefIdeal.τ Cert.DwQkvRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxRefIdeal (m : (ℓ : Loc Cert.DxRefIdeal.nD Cert.DxRefIdeal.τ Cert.DxRefIdeal.sig) → Buf (Elt Ideal) ℓ) : Prop :=
  True

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_DwQkv [hDwQkv : Cert.DwQkv.Facts] : Prop :=
  ∀ (m : (ℓ : Loc Cert.DwQkv.nD Cert.DwQkv.τ Cert.DwQkv.sig) → Buf (Elt Bits) ℓ) (g : Dev Cert.DwQkv.nD → PrngReg), Pre_DwQkv m →
    θ_run (Cert.DwQkv.defs (F := Bits)) (onTc (τ := Cert.DwQkv.τ) (Cert.DwQkv.main (F := Bits))) ⟨m, fun _ => 0, g⟩ (fun r => (∀ c : Dev Cert.DwQkv.nD,
      r.2.mem ((c.tc : Thread Cert.DwQkv.nD Cert.DwQkv.τ).loc Cert.DwQkv.main_arg0) = m ((c.tc : Thread Cert.DwQkv.nD Cert.DwQkv.τ).loc Cert.DwQkv.main_arg0)
      ∧ r.2.mem ((c.tc : Thread Cert.DwQkv.nD Cert.DwQkv.τ).loc Cert.DwQkv.main_arg1) = m ((c.tc : Thread Cert.DwQkv.nD Cert.DwQkv.τ).loc Cert.DwQkv.main_arg1)
      ∧ r.2.mem ((c.tc : Thread Cert.DwQkv.nD Cert.DwQkv.τ).loc Cert.DwQkv.main_arg2) = m ((c.tc : Thread Cert.DwQkv.nD Cert.DwQkv.τ).loc Cert.DwQkv.main_arg2)
      ∧ r.2.mem ((c.tc : Thread Cert.DwQkv.nD Cert.DwQkv.τ).loc Cert.DwQkv.main_arg3) = m ((c.tc : Thread Cert.DwQkv.nD Cert.DwQkv.τ).loc Cert.DwQkv.main_arg3)
      ∧ r.2.mem ((c.tc : Thread Cert.DwQkv.nD Cert.DwQkv.τ).loc Cert.DwQkv.main_arg4) = m ((c.tc : Thread Cert.DwQkv.nD Cert.DwQkv.τ).loc Cert.DwQkv.main_arg4))
      ∧ r.2.sem = fun _ => 0)

def quiescent_DwQkvIdeal [hDwQkvIdeal : Cert.DwQkvIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg), Pre_DwQkvIdeal m →
    θ_run (Cert.DwQkvIdeal.defs (F := Ideal)) (onTc (τ := Cert.DwQkvIdeal.τ) (Cert.DwQkvIdeal.main (F := Ideal))) ⟨m, fun _ => 0, g⟩ (fun r => (∀ c : Dev Cert.DwQkvIdeal.nD,
      r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
      ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
      ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
      ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
      ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ r.2.sem = fun _ => 0)

def quiescent_DwQkvRefIdeal [hDwQkvRefIdeal : Cert.DwQkvRefIdeal.Facts] : Prop :=
  ∀ (m : (ℓ : Loc Cert.DwQkvRefIdeal.nD Cert.DwQkvRefIdeal.τ Cert.DwQkvRefIdeal.sig) → Buf (Elt Ideal) ℓ) (g : Dev Cert.DwQkvRefIdeal.nD → PrngReg), Pre_DwQkvRefIdeal m →
    θ_run (Cert.DwQkvRefIdeal.defs (F := Ideal)) (onTc (τ := Cert.DwQkvRefIdeal.τ) (Cert.DwQkvRefIdeal.main (F := Ideal))) ⟨m, fun _ => 0, g⟩ (fun r => (∀ c : Dev Cert.DwQkvRefIdeal.nD,
      r.2.mem ((c.tc : Thread Cert.DwQkvRefIdeal.nD Cert.DwQkvRefIdeal.τ).loc Cert.DwQkvRefIdeal.main_arg0) = m ((c.tc : Thread Cert.DwQkvRefIdeal.nD Cert.DwQkvRefIdeal.τ).loc Cert.DwQkvRefIdeal.main_arg0)
      ∧ r.2.mem ((c.tc : Thread Cert.DwQkvRefIdeal.nD Cert.DwQkvRefIdeal.τ).loc Cert.DwQkvRefIdeal.main_arg1) = m ((c.tc : Thread Cert.DwQkvRefIdeal.nD Cert.DwQkvRefIdeal.τ).loc Cert.DwQkvRefIdeal.main_arg1)
      ∧ r.2.mem ((c.tc : Thread Cert.DwQkvRefIdeal.nD Cert.DwQkvRefIdeal.τ).loc Cert.DwQkvRefIdeal.main_arg2) = m ((c.tc : Thread Cert.DwQkvRefIdeal.nD Cert.DwQkvRefIdeal.τ).loc Cert.DwQkvRefIdeal.main_arg2)
      ∧ r.2.mem ((c.tc : Thread Cert.DwQkvRefIdeal.nD Cert.DwQkvRefIdeal.τ).loc Cert.DwQkvRefIdeal.main_arg3) = m ((c.tc : Thread Cert.DwQkvRefIdeal.nD Cert.DwQkvRefIdeal.τ).loc Cert.DwQkvRefIdeal.main_arg3)
      ∧ r.2.mem ((c.tc : Thread Cert.DwQkvRefIdeal.nD Cert.DwQkvRefIdeal.τ).loc Cert.DwQkvRefIdeal.main_arg4) = m ((c.tc : Thread Cert.DwQkvRefIdeal.nD Cert.DwQkvRefIdeal.τ).loc Cert.DwQkvRefIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6)
      ∧ r.2.mem ((c.tc : Thread Cert.Dx.nD Cert.Dx.τ).loc Cert.Dx.main_arg7) = m ((c.tc : Thread Cert.Dx.nD Cert.Dx.τ).loc Cert.Dx.main_arg7)
      ∧ r.2.mem ((c.tc : Thread Cert.Dx.nD Cert.Dx.τ).loc Cert.Dx.main_arg8) = m ((c.tc : Thread Cert.Dx.nD Cert.Dx.τ).loc Cert.Dx.main_arg8)
      ∧ r.2.mem ((c.tc : Thread Cert.Dx.nD Cert.Dx.τ).loc Cert.Dx.main_arg9) = m ((c.tc : Thread Cert.Dx.nD Cert.Dx.τ).loc Cert.Dx.main_arg9))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
      ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
      ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
      ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6)
      ∧ r.2.mem ((c.tc : Thread Cert.DxRefIdeal.nD Cert.DxRefIdeal.τ).loc Cert.DxRefIdeal.main_arg7) = m ((c.tc : Thread Cert.DxRefIdeal.nD Cert.DxRefIdeal.τ).loc Cert.DxRefIdeal.main_arg7)
      ∧ r.2.mem ((c.tc : Thread Cert.DxRefIdeal.nD Cert.DxRefIdeal.τ).loc Cert.DxRefIdeal.main_arg8) = m ((c.tc : Thread Cert.DxRefIdeal.nD Cert.DxRefIdeal.τ).loc Cert.DxRefIdeal.main_arg8)
      ∧ r.2.mem ((c.tc : Thread Cert.DxRefIdeal.nD Cert.DxRefIdeal.τ).loc Cert.DxRefIdeal.main_arg9) = m ((c.tc : Thread Cert.DxRefIdeal.nD Cert.DxRefIdeal.τ).loc Cert.DxRefIdeal.main_arg9))
      ∧ r.2.sem = fun _ => 0)

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)) →
    ∃ (v0 : (c : Dev Cert.DwOutIdeal.nD) → Buf (Elt Ideal) ((c.tc : Thread Cert.DwOutIdeal.nD Cert.DwOutIdeal.τ).loc Cert.DwOutIdeal.main_v3)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v3) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v0) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v3)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v3) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v0) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_DwQkv_DwQkvIdeal : Prop :=
  True

def algebraic_DwQkvIdeal_DwQkvRefIdeal [hDwQkvIdeal : Cert.DwQkvIdeal.Facts] [hDwQkvRefIdeal : Cert.DwQkvRefIdeal.Facts] : Prop :=
  ∀ (m : (ℓ : Loc Cert.DwQkvIdeal.nD Cert.DwQkvIdeal.τ Cert.DwQkvIdeal.sig) → Buf (Elt Ideal) ℓ) (g : Dev Cert.DwQkvIdeal.nD → PrngReg)
    (m' : (ℓ : Loc Cert.DwQkvRefIdeal.nD Cert.DwQkvRefIdeal.τ Cert.DwQkvRefIdeal.sig) → Buf (Elt Ideal) ℓ) (g' : Dev Cert.DwQkvRefIdeal.nD → PrngReg), Pre_DwQkvIdeal m →
    (∀ c : Dev Cert.DwQkvIdeal.nD,
      m' ((c.tc : Thread Cert.DwQkvRefIdeal.nD Cert.DwQkvRefIdeal.τ).loc Cert.DwQkvRefIdeal.main_arg0) = m ((c.tc : Thread Cert.DwQkvIdeal.nD Cert.DwQkvIdeal.τ).loc Cert.DwQkvIdeal.main_arg0)
      ∧ m' ((c.tc : Thread Cert.DwQkvRefIdeal.nD Cert.DwQkvRefIdeal.τ).loc Cert.DwQkvRefIdeal.main_arg1) = m ((c.tc : Thread Cert.DwQkvIdeal.nD Cert.DwQkvIdeal.τ).loc Cert.DwQkvIdeal.main_arg1)
      ∧ m' ((c.tc : Thread Cert.DwQkvRefIdeal.nD Cert.DwQkvRefIdeal.τ).loc Cert.DwQkvRefIdeal.main_arg2) = m ((c.tc : Thread Cert.DwQkvIdeal.nD Cert.DwQkvIdeal.τ).loc Cert.DwQkvIdeal.main_arg2)
      ∧ m' ((c.tc : Thread Cert.DwQkvRefIdeal.nD Cert.DwQkvRefIdeal.τ).loc Cert.DwQkvRefIdeal.main_arg3) = m ((c.tc : Thread Cert.DwQkvIdeal.nD Cert.DwQkvIdeal.τ).loc Cert.DwQkvIdeal.main_arg3)
      ∧ m' ((c.tc : Thread Cert.DwQkvRefIdeal.nD Cert.DwQkvRefIdeal.τ).loc Cert.DwQkvRefIdeal.main_arg4) = m ((c.tc : Thread Cert.DwQkvIdeal.nD Cert.DwQkvIdeal.τ).loc Cert.DwQkvIdeal.main_arg4)) →
    ∃ (v0 : (c : Dev Cert.DwQkvIdeal.nD) → Buf (Elt Ideal) ((c.tc : Thread Cert.DwQkvIdeal.nD Cert.DwQkvIdeal.τ).loc Cert.DwQkvIdeal.main_v7)),
      θ_run (Cert.DwQkvIdeal.defs (F := Ideal)) (onTc (τ := Cert.DwQkvIdeal.τ) (Cert.DwQkvIdeal.main (F := Ideal))) ⟨m, fun _ => 0, g⟩ (fun r => ∀ c : Dev Cert.DwQkvIdeal.nD,
          r.2.mem ((c.tc : Thread Cert.DwQkvIdeal.nD Cert.DwQkvIdeal.τ).loc Cert.DwQkvIdeal.main_v7) = v0 c
          ∧ r.2.mem ((c.tc : Thread Cert.DwQkvIdeal.nD Cert.DwQkvIdeal.τ).loc Cert.DwQkvIdeal.main_arg0) = m ((c.tc : Thread Cert.DwQkvIdeal.nD Cert.DwQkvIdeal.τ).loc Cert.DwQkvIdeal.main_arg0)
          ∧ r.2.mem ((c.tc : Thread Cert.DwQkvIdeal.nD Cert.DwQkvIdeal.τ).loc Cert.DwQkvIdeal.main_arg1) = m ((c.tc : Thread Cert.DwQkvIdeal.nD Cert.DwQkvIdeal.τ).loc Cert.DwQkvIdeal.main_arg1)
          ∧ r.2.mem ((c.tc : Thread Cert.DwQkvIdeal.nD Cert.DwQkvIdeal.τ).loc Cert.DwQkvIdeal.main_arg2) = m ((c.tc : Thread Cert.DwQkvIdeal.nD Cert.DwQkvIdeal.τ).loc Cert.DwQkvIdeal.main_arg2)
          ∧ r.2.mem ((c.tc : Thread Cert.DwQkvIdeal.nD Cert.DwQkvIdeal.τ).loc Cert.DwQkvIdeal.main_arg3) = m ((c.tc : Thread Cert.DwQkvIdeal.nD Cert.DwQkvIdeal.τ).loc Cert.DwQkvIdeal.main_arg3)
          ∧ r.2.mem ((c.tc : Thread Cert.DwQkvIdeal.nD Cert.DwQkvIdeal.τ).loc Cert.DwQkvIdeal.main_arg4) = m ((c.tc : Thread Cert.DwQkvIdeal.nD Cert.DwQkvIdeal.τ).loc Cert.DwQkvIdeal.main_arg4))
      ∧ θ_run (Cert.DwQkvRefIdeal.defs (F := Ideal)) (onTc (τ := Cert.DwQkvRefIdeal.τ) (Cert.DwQkvRefIdeal.main (F := Ideal))) ⟨m', fun _ => 0, g'⟩ (fun r => ∀ c : Dev Cert.DwQkvRefIdeal.nD,
          r.2.mem ((c.tc : Thread Cert.DwQkvRefIdeal.nD Cert.DwQkvRefIdeal.τ).loc Cert.DwQkvRefIdeal.main_v0) = v0 c
          ∧ r.2.mem ((c.tc : Thread Cert.DwQkvRefIdeal.nD Cert.DwQkvRefIdeal.τ).loc Cert.DwQkvRefIdeal.main_arg0) = m' ((c.tc : Thread Cert.DwQkvRefIdeal.nD Cert.DwQkvRefIdeal.τ).loc Cert.DwQkvRefIdeal.main_arg0)
          ∧ r.2.mem ((c.tc : Thread Cert.DwQkvRefIdeal.nD Cert.DwQkvRefIdeal.τ).loc Cert.DwQkvRefIdeal.main_arg1) = m' ((c.tc : Thread Cert.DwQkvRefIdeal.nD Cert.DwQkvRefIdeal.τ).loc Cert.DwQkvRefIdeal.main_arg1)
          ∧ r.2.mem ((c.tc : Thread Cert.DwQkvRefIdeal.nD Cert.DwQkvRefIdeal.τ).loc Cert.DwQkvRefIdeal.main_arg2) = m' ((c.tc : Thread Cert.DwQkvRefIdeal.nD Cert.DwQkvRefIdeal.τ).loc Cert.DwQkvRefIdeal.main_arg2)
          ∧ r.2.mem ((c.tc : Thread Cert.DwQkvRefIdeal.nD Cert.DwQkvRefIdeal.τ).loc Cert.DwQkvRefIdeal.main_arg3) = m' ((c.tc : Thread Cert.DwQkvRefIdeal.nD Cert.DwQkvRefIdeal.τ).loc Cert.DwQkvRefIdeal.main_arg3)
          ∧ r.2.mem ((c.tc : Thread Cert.DwQkvRefIdeal.nD Cert.DwQkvRefIdeal.τ).loc Cert.DwQkvRefIdeal.main_arg4) = m' ((c.tc : Thread Cert.DwQkvRefIdeal.nD Cert.DwQkvRefIdeal.τ).loc Cert.DwQkvRefIdeal.main_arg4))

def preserves_Dx_DxIdeal : Prop :=
  IdealRules.named_const.Statement Cert.DxIdeal.κ "inv_d" .f32 0x39B60B61#32 ((1 / 2880 : ℝ) : EReal)

def algebraic_DxIdeal_DxRefIdeal [hDxIdeal : Cert.DxIdeal.Facts] [hDxRefIdeal : Cert.DxRefIdeal.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)
      ∧ m' ((c.tc : Thread Cert.DxRefIdeal.nD Cert.DxRefIdeal.τ).loc Cert.DxRefIdeal.main_arg7) = m ((c.tc : Thread Cert.DxIdeal.nD Cert.DxIdeal.τ).loc Cert.DxIdeal.main_arg7)
      ∧ m' ((c.tc : Thread Cert.DxRefIdeal.nD Cert.DxRefIdeal.τ).loc Cert.DxRefIdeal.main_arg8) = m ((c.tc : Thread Cert.DxIdeal.nD Cert.DxIdeal.τ).loc Cert.DxIdeal.main_arg8)
      ∧ m' ((c.tc : Thread Cert.DxRefIdeal.nD Cert.DxRefIdeal.τ).loc Cert.DxRefIdeal.main_arg9) = m ((c.tc : Thread Cert.DxIdeal.nD Cert.DxIdeal.τ).loc Cert.DxIdeal.main_arg9)) →
    ∃ (v0 : (c : Dev Cert.DxIdeal.nD) → Buf (Elt Ideal) ((c.tc : Thread Cert.DxIdeal.nD Cert.DxIdeal.τ).loc Cert.DxIdeal.main_v13_0)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v13_0) = v0 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6)
          ∧ r.2.mem ((c.tc : Thread Cert.DxIdeal.nD Cert.DxIdeal.τ).loc Cert.DxIdeal.main_arg7) = m ((c.tc : Thread Cert.DxIdeal.nD Cert.DxIdeal.τ).loc Cert.DxIdeal.main_arg7)
          ∧ r.2.mem ((c.tc : Thread Cert.DxIdeal.nD Cert.DxIdeal.τ).loc Cert.DxIdeal.main_arg8) = m ((c.tc : Thread Cert.DxIdeal.nD Cert.DxIdeal.τ).loc Cert.DxIdeal.main_arg8)
          ∧ r.2.mem ((c.tc : Thread Cert.DxIdeal.nD Cert.DxIdeal.τ).loc Cert.DxIdeal.main_arg9) = m ((c.tc : Thread Cert.DxIdeal.nD Cert.DxIdeal.τ).loc Cert.DxIdeal.main_arg9))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v0) = v0 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6)
          ∧ r.2.mem ((c.tc : Thread Cert.DxRefIdeal.nD Cert.DxRefIdeal.τ).loc Cert.DxRefIdeal.main_arg7) = m' ((c.tc : Thread Cert.DxRefIdeal.nD Cert.DxRefIdeal.τ).loc Cert.DxRefIdeal.main_arg7)
          ∧ r.2.mem ((c.tc : Thread Cert.DxRefIdeal.nD Cert.DxRefIdeal.τ).loc Cert.DxRefIdeal.main_arg8) = m' ((c.tc : Thread Cert.DxRefIdeal.nD Cert.DxRefIdeal.τ).loc Cert.DxRefIdeal.main_arg8)
          ∧ r.2.mem ((c.tc : Thread Cert.DxRefIdeal.nD Cert.DxRefIdeal.τ).loc Cert.DxRefIdeal.main_arg9) = m' ((c.tc : Thread Cert.DxRefIdeal.nD Cert.DxRefIdeal.τ).loc Cert.DxRefIdeal.main_arg9))

def Claim : Prop :=
  ∃ (hDwOut : Cert.DwOut.Facts) (hDwOutIdeal : Cert.DwOutIdeal.Facts) (hDwOutRefIdeal : Cert.DwOutRefIdeal.Facts) (hDwIn : Cert.DwIn.Facts) (hDwInIdeal : Cert.DwInIdeal.Facts) (hDwInRefIdeal : Cert.DwInRefIdeal.Facts) (hDwQkv : Cert.DwQkv.Facts) (hDwQkvIdeal : Cert.DwQkvIdeal.Facts) (hDwQkvRefIdeal : Cert.DwQkvRefIdeal.Facts) (hDx : Cert.Dx.Facts) (hDxIdeal : Cert.DxIdeal.Facts) (hDxRefIdeal : Cert.DxRefIdeal.Facts),
    quiescent_DwOut (hDwOut := hDwOut)
    ∧ quiescent_DwOutIdeal (hDwOutIdeal := hDwOutIdeal)
    ∧ quiescent_DwOutRefIdeal (hDwOutRefIdeal := hDwOutRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwQkv (hDwQkv := hDwQkv)
    ∧ quiescent_DwQkvIdeal (hDwQkvIdeal := hDwQkvIdeal)
    ∧ quiescent_DwQkvRefIdeal (hDwQkvRefIdeal := hDwQkvRefIdeal)
    ∧ quiescent_Dx (hDx := hDx)
    ∧ quiescent_DxIdeal (hDxIdeal := hDxIdeal)
    ∧ quiescent_DxRefIdeal (hDxRefIdeal := hDxRefIdeal)
    ∧ preserves_DwOut_DwOutIdeal
    ∧ algebraic_DwOutIdeal_DwOutRefIdeal (hDwOutIdeal := hDwOutIdeal) (hDwOutRefIdeal := hDwOutRefIdeal)
    ∧ preserves_DwIn_DwInIdeal
    ∧ algebraic_DwInIdeal_DwInRefIdeal (hDwInIdeal := hDwInIdeal) (hDwInRefIdeal := hDwInRefIdeal)
    ∧ preserves_DwQkv_DwQkvIdeal
    ∧ algebraic_DwQkvIdeal_DwQkvRefIdeal (hDwQkvIdeal := hDwQkvIdeal) (hDwQkvRefIdeal := hDwQkvRefIdeal)
    ∧ preserves_Dx_DxIdeal
    ∧ algebraic_DxIdeal_DxRefIdeal (hDxIdeal := hDxIdeal) (hDxRefIdeal := hDxRefIdeal)
-- ==== DwOut.lean ====
abbrev S12x2048x2880 : Shape := ⟨3, ![12, 2048, 2880]⟩
abbrev S12x2048x90 : Shape := ⟨3, ![12, 2048, 90]⟩
abbrev S12x2048x7680 : Shape := ⟨3, ![12, 2048, 7680]⟩
abbrev S12x2048 : Shape := ⟨2, ![12, 2048]⟩
abbrev S12x2880x2048 : Shape := ⟨3, ![12, 2880, 2048]⟩
abbrev S12x90x2048 : Shape := ⟨3, ![12, 90, 2048]⟩
abbrev S12x1x2048 : Shape := ⟨3, ![12, 1, 2048]⟩
abbrev S2880x7680 : Shape := ⟨2, ![2880, 7680]⟩
abbrev S1x2880x2048 : Shape := ⟨3, ![1, 2880, 2048]⟩
abbrev S1x90x2048 : Shape := ⟨3, ![1, 90, 2048]⟩
abbrev S1x1x2048 : Shape := ⟨3, ![1, 1, 2048]⟩
abbrev S1x2048x768 : Shape := ⟨3, ![1, 2048, 768]⟩
abbrev S2880x768 : Shape := ⟨2, ![2880, 768]⟩
abbrev S2880x2048 : Shape := ⟨2, ![2880, 2048]⟩
abbrev S1x2048 : Shape := ⟨2, ![1, 2048]⟩
abbrev S1x32x2048 : Shape := ⟨3, ![1, 32, 2048]⟩
abbrev S32x2048 : Shape := ⟨2, ![32, 2048]⟩
abbrev S2048x768 : Shape := ⟨2, ![2048, 768]⟩

abbrev nBuf : Space → Nat
  | .hbm => 8
  | .vmem => 12
  | .smem => 0
  | _ => 0

abbrev bufTy : (tb : Table) → Fin (tcTables nBuf tb) → BufTy
  | .hbm, ⟨0, _⟩ => ⟨S12x2048x2880, .fp8e5m2⟩
  | .hbm, ⟨1, _⟩ => ⟨S12x2048x90, .f32⟩
  | .hbm, ⟨2, _⟩ => ⟨S12x2048x7680, .fp8e4m3⟩
  | .hbm, ⟨3, _⟩ => ⟨S12x2048, .f32⟩
  | .hbm, ⟨4, _⟩ => ⟨S12x2880x2048, .fp8e5m2⟩
  | .hbm, ⟨5, _⟩ => ⟨S12x90x2048, .f32⟩
  | .hbm, ⟨6, _⟩ => ⟨S12x1x2048, .f32⟩
  | .hbm, ⟨7, _⟩ => ⟨S2880x7680, .bf16⟩
  | .local _ .vmem, ⟨0, _⟩ => ⟨S1x2880x2048, .fp8e5m2⟩
  | .local _ .vmem, ⟨1, _⟩ => ⟨S1x2880x2048, .fp8e5m2⟩
  | .local _ .vmem, ⟨2, _⟩ => ⟨S1x90x2048, .f32⟩
  | .local _ .vmem, ⟨3, _⟩ => ⟨S1x90x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048x768, .fp8e4m3⟩
  | .local _ .vmem, ⟨7, _⟩ => ⟨S1x2048x768, .fp8e4m3⟩
  | .local _ .vmem, ⟨8, _⟩ => ⟨S2880x768, .bf16⟩
  | .local _ .vmem, ⟨9, _⟩ => ⟨S2880x768, .bf16⟩
  | .local _ .vmem, ⟨10, _⟩ => ⟨S2880x768, .f32⟩
  | .local _ .vmem, ⟨11, _⟩ => ⟨S2880x2048, .bf16⟩
  | _, _ => ⟨S12x2048x2880, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 12], ![false, false]⟩

def k0_cond2 (i : grid0.Coords) : BitVec 1 :=
  let arg1 : BitVec 32 := BitVec.ofNat 32 (i 1).val
  let c11_i32 : BitVec 32 := 11#32
  let v1185 : BitVec 1 := Scalar.cmpi .eq arg1 c11_i32
  let v1186 : BitVec 32 := Scalar.extui v1185
  let c0_i32_556 : BitVec 32 := 0#32
  let v1187 : BitVec 1 := Scalar.cmpi .ne v1186 c0_i32_556
  v1187

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2880x2048 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x90x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x768 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2880x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwOutRefIdeal.lean ====
abbrev S12x2048x2880 : Shape := ⟨3, ![12, 2048, 2880]⟩
abbrev S12x2048x90 : Shape := ⟨3, ![12, 2048, 90]⟩
abbrev S12x2048x7680 : Shape := ⟨3, ![12, 2048, 7680]⟩
abbrev S12x2048 : Shape := ⟨2, ![12, 2048]⟩
abbrev S2880x7680 : Shape := ⟨2, ![2880, 7680]⟩
abbrev S12x2048x90x32 : Shape := ⟨4, ![12, 2048, 90, 32]⟩
abbrev S12x2048x90x1 : Shape := ⟨4, ![12, 2048, 90, 1]⟩
abbrev S24576x2880 : Shape := ⟨2, ![24576, 2880]⟩
abbrev S12x2048x1 : Shape := ⟨3, ![12, 2048, 1]⟩
abbrev S24576x7680 : Shape := ⟨2, ![24576, 7680]⟩
abbrev S7680x2880 : Shape := ⟨2, ![7680, 2880]⟩

abbrev nBuf : Space → Nat
  | .hbm => 5
  | .vmem => 5
  | .smem => 0
  | _ => 0

abbrev bufTy : (tb : Table) → Fin (tcTables nBuf tb) → BufTy
  | .hbm, ⟨0, _⟩ => ⟨S12x2048x2880, .fp8e5m2⟩
  | .hbm, ⟨1, _⟩ => ⟨S12x2048x90, .f32⟩
  | .hbm, ⟨2, _⟩ => ⟨S12x2048x7680, .fp8e4m3⟩
  | .hbm, ⟨3, _⟩ => ⟨S12x2048, .f32⟩
  | .hbm, ⟨4, _⟩ => ⟨S2880x7680, .bf16⟩
  | .local _ .vmem, ⟨0, _⟩ => ⟨S12x2048x2880, .fp8e5m2⟩
  | .local _ .vmem, ⟨1, _⟩ => ⟨S12x2048x90, .f32⟩
  | .local _ .vmem, ⟨2, _⟩ => ⟨S12x2048x7680, .fp8e4m3⟩
  | .local _ .vmem, ⟨3, _⟩ => ⟨S12x2048, .f32⟩
  | .local _ .vmem, ⟨4, _⟩ => ⟨S2880x7680, .bf16⟩
  | _, _ => ⟨S12x2048x2880, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12x2048x2880 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x90 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x7680 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwIn.lean ====
abbrev S12x2048x2880 : Shape := ⟨3, ![12, 2048, 2880]⟩
abbrev S12x2048 : Shape := ⟨2, ![12, 2048]⟩
abbrev S12x2048x7680 : Shape := ⟨3, ![12, 2048, 7680]⟩
abbrev S2880 : Shape := ⟨1, ![2880]⟩
abbrev S12x2880x2048 : Shape := ⟨3, ![12, 2880, 2048]⟩
abbrev S12x1x2048 : Shape := ⟨3, ![12, 1, 2048]⟩
abbrev S2880x1 : Shape := ⟨2, ![2880, 1]⟩
abbrev S2880x7680 : Shape := ⟨2, ![2880, 7680]⟩
abbrev S1x2880x2048 : Shape := ⟨3, ![1, 2880, 2048]⟩
abbrev S1x1x2048 : Shape := ⟨3, ![1, 1, 2048]⟩
abbrev S1x2048x768 : Shape := ⟨3, ![1, 2048, 768]⟩
abbrev S2880x768 : Shape := ⟨2, ![2880, 768]⟩
abbrev S2880x2048 : Shape := ⟨2, ![2880, 2048]⟩
abbrev S1x2048 : Shape := ⟨2, ![1, 2048]⟩
abbrev S2048x768 : Shape := ⟨2, ![2048, 768]⟩

abbrev nBuf : Space → Nat
  | .hbm => 8
  | .vmem => 10
  | .smem => 0
  | _ => 0

abbrev bufTy : (tb : Table) → Fin (tcTables nBuf tb) → BufTy
  | .hbm, ⟨0, _⟩ => ⟨S12x2048x2880, .fp8e4m3⟩
  | .hbm, ⟨1, _⟩ => ⟨S12x2048, .f32⟩
  | .hbm, ⟨2, _⟩ => ⟨S12x2048x7680, .bf16⟩
  | .hbm, ⟨3, _⟩ => ⟨S2880, .f32⟩
  | .hbm, ⟨4, _⟩ => ⟨S12x2880x2048, .fp8e4m3⟩
  | .hbm, ⟨5, _⟩ => ⟨S12x1x2048, .f32⟩
  | .hbm, ⟨6, _⟩ => ⟨S2880x1, .f32⟩
  | .hbm, ⟨7, _⟩ => ⟨S2880x7680, .bf16⟩
  | .local _ .vmem, ⟨0, _⟩ => ⟨S1x2880x2048, .fp8e4m3⟩
  | .local _ .vmem, ⟨1, _⟩ => ⟨S1x2880x2048, .fp8e4m3⟩
  | .local _ .vmem, ⟨2, _⟩ => ⟨S1x1x2048, .f32⟩
  | .local _ .vmem, ⟨3, _⟩ => ⟨S1x1x2048, .f32⟩
  | .local _ .vmem, ⟨4, _⟩ => ⟨S1x2048x768, .bf16⟩
  | .local _ .vmem, ⟨5, _⟩ => ⟨S1x2048x768, .bf16⟩
  | .local _ .vmem, ⟨6, _⟩ => ⟨S2880x1, .f32⟩
  | .local _ .vmem, ⟨7, _⟩ => ⟨S2880x768, .bf16⟩
  | .local _ .vmem, ⟨8, _⟩ => ⟨S2880x768, .bf16⟩
  | .local _ .vmem, ⟨9, _⟩ => ⟨S2880x768, .f32⟩
  | _, _ => ⟨S12x2048x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![10, 12], ![false, false]⟩

def k0_cond2 (i : grid0.Coords) : BitVec 1 :=
  let arg1 : BitVec 32 := BitVec.ofNat 32 (i 1).val
  let c11_i32 : BitVec 32 := 11#32
  let v19 : BitVec 1 := Scalar.cmpi .eq arg1 c11_i32
  let v20 : BitVec 32 := Scalar.extui v19
  let c0_i32_13 : BitVec 32 := 0#32
  let v21 : BitVec 1 := Scalar.cmpi .ne v20 c0_i32_13
  v21

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2880x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2880x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2880x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== DwInRefIdeal.lean ====
abbrev S12x2048x2880 : Shape := ⟨3, ![12, 2048, 2880]⟩
abbrev S12x2048 : Shape := ⟨2, ![12, 2048]⟩
abbrev S12x2048x7680 : Shape := ⟨3, ![12, 2048, 7680]⟩
abbrev S2880 : Shape := ⟨1, ![2880]⟩
abbrev S2880x7680 : Shape := ⟨2, ![2880, 7680]⟩
abbrev S12x2048x1 : Shape := ⟨3, ![12, 2048, 1]⟩
abbrev S24576x2880 : Shape := ⟨2, ![24576, 2880]⟩
abbrev S2880x1 : Shape := ⟨2, ![2880, 1]⟩
abbrev S24576x7680 : Shape := ⟨2, ![24576, 7680]⟩

abbrev nBuf : Space → Nat
  | .hbm => 5
  | .vmem => 5
  | .smem => 0
  | _ => 0

abbrev bufTy : (tb : Table) → Fin (tcTables nBuf tb) → BufTy
  | .hbm, ⟨0, _⟩ => ⟨S12x2048x2880, .fp8e4m3⟩
  | .hbm, ⟨1, _⟩ => ⟨S12x2048, .f32⟩
  | .hbm, ⟨2, _⟩ => ⟨S12x2048x7680, .bf16⟩
  | .hbm, ⟨3, _⟩ => ⟨S2880, .f32⟩
  | .hbm, ⟨4, _⟩ => ⟨S2880x7680, .bf16⟩
  | .local _ .vmem, ⟨0, _⟩ => ⟨S12x2048x2880, .fp8e4m3⟩
  | .local _ .vmem, ⟨1, _⟩ => ⟨S12x2048, .f32⟩
  | .local _ .vmem, ⟨2, _⟩ => ⟨S12x2048x7680, .bf16⟩
  | .local _ .vmem, ⟨3, _⟩ => ⟨S2880, .f32⟩
  | .local _ .vmem, ⟨4, _⟩ => ⟨S2880x7680, .bf16⟩
  | _, _ => ⟨S12x2048x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S12x2048x2880 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2880 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwQkv.lean ====
abbrev S12x2048x3x18x160 : Shape := ⟨5, ![12, 2048, 3, 18, 160]⟩
abbrev S12x2048x3x18x5 : Shape := ⟨5, ![12, 2048, 3, 18, 5]⟩
abbrev S12x2048x2880 : Shape := ⟨3, ![12, 2048, 2880]⟩
abbrev S12x2048 : Shape := ⟨2, ![12, 2048]⟩
abbrev S2880 : Shape := ⟨1, ![2880]⟩
abbrev S12x3x18x160x2048 : Shape := ⟨5, ![12, 3, 18, 160, 2048]⟩
abbrev S12x8640x2048 : Shape := ⟨3, ![12, 8640, 2048]⟩
abbrev S12x3x18x5x2048 : Shape := ⟨5, ![12, 3, 18, 5, 2048]⟩
abbrev S12x270x2048 : Shape := ⟨3, ![12, 270, 2048]⟩
abbrev S12x2880x2048 : Shape := ⟨3, ![12, 2880, 2048]⟩
abbrev S12x1x2048 : Shape := ⟨3, ![12, 1, 2048]⟩
abbrev S2880x1 : Shape := ⟨2, ![2880, 1]⟩
abbrev S8640x2880 : Shape := ⟨2, ![8640, 2880]⟩
abbrev S1x2880x2048 : Shape := ⟨3, ![1, 2880, 2048]⟩
abbrev S1x1x2048 : Shape := ⟨3, ![1, 1, 2048]⟩
abbrev S1x512x2048 : Shape := ⟨3, ![1, 512, 2048]⟩
abbrev S1x16x2048 : Shape := ⟨3, ![1, 16, 2048]⟩
abbrev S512x2880 : Shape := ⟨2, ![512, 2880]⟩
abbrev S2880x512 : Shape := ⟨2, ![2880, 512]⟩
abbrev S512x2048 : Shape := ⟨2, ![512, 2048]⟩
abbrev S2880x2048 : Shape := ⟨2, ![2880, 2048]⟩
abbrev S1x2048 : Shape := ⟨2, ![1, 2048]⟩
abbrev S1x32x2048 : Shape := ⟨3, ![1, 32, 2048]⟩
abbrev S32x2048 : Shape := ⟨2, ![32, 2048]⟩

abbrev nBuf : Space → Nat
  | .hbm => 13
  | .vmem => 13
  | .smem => 0
  | _ => 0

abbrev bufTy : (tb : Table) → Fin (tcTables nBuf tb) → BufTy
  | .hbm, ⟨0, _⟩ => ⟨S12x2048x3x18x160, .fp8e5m2⟩
  | .hbm, ⟨1, _⟩ => ⟨S12x2048x3x18x5, .f32⟩
  | .hbm, ⟨2, _⟩ => ⟨S12x2048x2880, .fp8e4m3⟩
  | .hbm, ⟨3, _⟩ => ⟨S12x2048, .f32⟩
  | .hbm, ⟨4, _⟩ => ⟨S2880, .f32⟩
  | .hbm, ⟨5, _⟩ => ⟨S12x3x18x160x2048, .fp8e5m2⟩
  | .hbm, ⟨6, _⟩ => ⟨S12x8640x2048, .fp8e5m2⟩
  | .hbm, ⟨7, _⟩ => ⟨S12x3x18x5x2048, .f32⟩
  | .hbm, ⟨8, _⟩ => ⟨S12x270x2048, .f32⟩
  | .hbm, ⟨9, _⟩ => ⟨S12x2880x2048, .fp8e4m3⟩
  | .hbm, ⟨10, _⟩ => ⟨S12x1x2048, .f32⟩
  | .hbm, ⟨11, _⟩ => ⟨S2880x1, .f32⟩
  | .hbm, ⟨12, _⟩ => ⟨S8640x2880, .bf16⟩
  | .local _ .vmem, ⟨0, _⟩ => ⟨S1x2880x2048, .fp8e4m3⟩
  | .local _ .vmem, ⟨1, _⟩ => ⟨S1x2880x2048, .fp8e4m3⟩
  | .local _ .vmem, ⟨2, _⟩ => ⟨S1x1x2048, .f32⟩
  | .local _ .vmem, ⟨3, _⟩ => ⟨S1x1x2048, .f32⟩
  | .local _ .vmem, ⟨4, _⟩ => ⟨S1x512x2048, .fp8e5m2⟩
  | .local _ .vmem, ⟨5, _⟩ => ⟨S1x512x2048, .fp8e5m2⟩
  | .local _ .vmem, ⟨6, _⟩ => ⟨S1x16x2048, .f32⟩
  | .local _ .vmem, ⟨7, _⟩ => ⟨S1x16x2048, .f32⟩
  | .local _ .vmem, ⟨8, _⟩ => ⟨S2880x1, .f32⟩
  | .local _ .vmem, ⟨9, _⟩ => ⟨S512x2880, .bf16⟩
  | .local _ .vmem, ⟨10, _⟩ => ⟨S512x2880, .bf16⟩
  | .local _ .vmem, ⟨11, _⟩ => ⟨S2880x512, .f32⟩
  | .local _ .vmem, ⟨12, _⟩ => ⟨S512x2048, .bf16⟩
  | _, _ => ⟨S12x2048x3x18x160, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![17, 12], ![false, false]⟩

def k0_cond2 (i : grid0.Coords) : BitVec 1 :=
  let arg1 : BitVec 32 := BitVec.ofNat 32 (i 1).val
  let c11_i32 : BitVec 32 := 11#32
  let v194 : BitVec 1 := Scalar.cmpi .eq arg1 c11_i32
  let v195 : BitVec 32 := Scalar.extui v194
  let c0_i32_110 : BitVec 32 := 0#32
  let v196 : BitVec 1 := Scalar.cmpi .ne v195 c0_i32_110
  v196

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2880x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2880x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2880 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DwQkvRefIdeal.lean ====
abbrev S12x2048x3x18x160 : Shape := ⟨5, ![12, 2048, 3, 18, 160]⟩
abbrev S12x2048x3x18x5 : Shape := ⟨5, ![12, 2048, 3, 18, 5]⟩
abbrev S12x2048x2880 : Shape := ⟨3, ![12, 2048, 2880]⟩
abbrev S12x2048 : Shape := ⟨2, ![12, 2048]⟩
abbrev S2880 : Shape := ⟨1, ![2880]⟩
abbrev S8640x2880 : Shape := ⟨2, ![8640, 2880]⟩
abbrev S12x2048x3x18x5x32 : Shape := ⟨6, ![12, 2048, 3, 18, 5, 32]⟩
abbrev S12x2048x3x18x5x1 : Shape := ⟨6, ![12, 2048, 3, 18, 5, 1]⟩
abbrev S24576x8640 : Shape := ⟨2, ![24576, 8640]⟩
abbrev S12x2048x1 : Shape := ⟨3, ![12, 2048, 1]⟩
abbrev S24576x2880 : Shape := ⟨2, ![24576, 2880]⟩
abbrev S2880x1 : Shape := ⟨2, ![2880, 1]⟩
abbrev S2880x8640 : Shape := ⟨2, ![2880, 8640]⟩

abbrev nBuf : Space → Nat
  | .hbm => 6
  | .vmem => 6
  | .smem => 0
  | _ => 0

abbrev bufTy : (tb : Table) → Fin (tcTables nBuf tb) → BufTy
  | .hbm, ⟨0, _⟩ => ⟨S12x2048x3x18x160, .fp8e5m2⟩
  | .hbm, ⟨1, _⟩ => ⟨S12x2048x3x18x5, .f32⟩
  | .hbm, ⟨2, _⟩ => ⟨S12x2048x2880, .fp8e4m3⟩
  | .hbm, ⟨3, _⟩ => ⟨S12x2048, .f32⟩
  | .hbm, ⟨4, _⟩ => ⟨S2880, .f32⟩
  | .hbm, ⟨5, _⟩ => ⟨S8640x2880, .bf16⟩
  | .local _ .vmem, ⟨0, _⟩ => ⟨S12x2048x3x18x160, .fp8e5m2⟩
  | .local _ .vmem, ⟨1, _⟩ => ⟨S12x2048x3x18x5, .f32⟩
  | .local _ .vmem, ⟨2, _⟩ => ⟨S12x2048x2880, .fp8e4m3⟩
  | .local _ .vmem, ⟨3, _⟩ => ⟨S12x2048, .f32⟩
  | .local _ .vmem, ⟨4, _⟩ => ⟨S2880, .f32⟩
  | .local _ .vmem, ⟨5, _⟩ => ⟨S8640x2880, .bf16⟩
  | _, _ => ⟨S12x2048x3x18x160, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x2048x3x18x160 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x3x18x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x2880 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8640x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Dx.lean ====
abbrev S2880x17280 : Shape := ⟨2, ![2880, 17280]⟩
abbrev S12x2048x7680 : Shape := ⟨3, ![12, 2048, 7680]⟩
abbrev S12x2048x3x18x160 : Shape := ⟨5, ![12, 2048, 3, 18, 160]⟩
abbrev S12x2048x3x18x5 : Shape := ⟨5, ![12, 2048, 3, 18, 5]⟩
abbrev S12x2048x2880 : Shape := ⟨3, ![12, 2048, 2880]⟩
abbrev S12x2048x90 : Shape := ⟨3, ![12, 2048, 90]⟩
abbrev S12x2048 : Shape := ⟨2, ![12, 2048]⟩
abbrev S2880 : Shape := ⟨1, ![2880]⟩
abbrev S12x2880x2048 : Shape := ⟨3, ![12, 2880, 2048]⟩
abbrev S12x90x2048 : Shape := ⟨3, ![12, 90, 2048]⟩
abbrev S12x3x18x160x2048 : Shape := ⟨5, ![12, 3, 18, 160, 2048]⟩
abbrev S12x8640x2048 : Shape := ⟨3, ![12, 8640, 2048]⟩
abbrev S12x3x18x5x2048 : Shape := ⟨5, ![12, 3, 18, 5, 2048]⟩
abbrev S12x270x2048 : Shape := ⟨3, ![12, 270, 2048]⟩
abbrev S_ : Shape := ⟨0, ![]⟩
abbrev S12x300x2048 : Shape := ⟨3, ![12, 300, 2048]⟩
abbrev S12x5x60x2048 : Shape := ⟨4, ![12, 5, 60, 2048]⟩
abbrev S12x5x64x2048 : Shape := ⟨4, ![12, 5, 64, 2048]⟩
abbrev S12x1x2048 : Shape := ⟨3, ![12, 1, 2048]⟩
abbrev S2880x1 : Shape := ⟨2, ![2880, 1]⟩
abbrev S2880x128 : Shape := ⟨2, ![2880, 128]⟩
abbrev S2880x1920 : Shape := ⟨2, ![2880, 1920]⟩
abbrev S1x512x1920 : Shape := ⟨3, ![1, 512, 1920]⟩
abbrev S1x1920x512 : Shape := ⟨3, ![1, 1920, 512]⟩
abbrev S1x1x64x512 : Shape := ⟨4, ![1, 1, 64, 512]⟩
abbrev S1x2880x512 : Shape := ⟨3, ![1, 2880, 512]⟩
abbrev S1x90x512 : Shape := ⟨3, ![1, 90, 512]⟩
abbrev S1x1x512 : Shape := ⟨3, ![1, 1, 512]⟩
abbrev S2880x512 : Shape := ⟨2, ![2880, 512]⟩
abbrev S1920x512 : Shape := ⟨2, ![1920, 512]⟩
abbrev S512x1920 : Shape := ⟨2, ![512, 1920]⟩
abbrev S1x1x1x512 : Shape := ⟨4, ![1, 1, 1, 512]⟩
abbrev S1x512 : Shape := ⟨2, ![1, 512]⟩
abbrev S1x32x512 : Shape := ⟨3, ![1, 32, 512]⟩
abbrev S32x512 : Shape := ⟨2, ![32, 512]⟩
abbrev S2880x960 : Shape := ⟨2, ![2880, 960]⟩
abbrev S960x512 : Shape := ⟨2, ![960, 512]⟩
abbrev S8x512 : Shape := ⟨2, ![8, 512]⟩
abbrev S32x128 : Shape := ⟨2, ![32, 128]⟩
abbrev S32x1 : Shape := ⟨2, ![32, 1]⟩
abbrev S512 : Shape := ⟨1, ![512]⟩

abbrev nBuf : Space → Nat
  | .hbm => 29
  | .vmem => 24
  | .smem => 0
  | _ => 0

abbrev bufTy : (tb : Table) → Fin (tcTables nBuf tb) → BufTy
  | .hbm, ⟨0, _⟩ => ⟨S2880x17280, .bf16⟩
  | .hbm, ⟨1, _⟩ => ⟨S12x2048x7680, .bf16⟩
  | .hbm, ⟨2, _⟩ => ⟨S12x2048x3x18x160, .fp8e5m2⟩
  | .hbm, ⟨3, _⟩ => ⟨S12x2048x3x18x5, .f32⟩
  | .hbm, ⟨4, _⟩ => ⟨S12x2048x2880, .fp8e5m2⟩
  | .hbm, ⟨5, _⟩ => ⟨S12x2048x90, .f32⟩
  | .hbm, ⟨6, _⟩ => ⟨S12x2048x2880, .fp8e4m3⟩
  | .hbm, ⟨7, _⟩ => ⟨S12x2048, .f32⟩
  | .hbm, ⟨8, _⟩ => ⟨S12x2048, .f32⟩
  | .hbm, ⟨9, _⟩ => ⟨S2880, .f32⟩
  | .hbm, ⟨10, _⟩ => ⟨S12x2880x2048, .fp8e5m2⟩
  | .hbm, ⟨11, _⟩ => ⟨S12x90x2048, .f32⟩
  | .hbm, ⟨12, _⟩ => ⟨S12x3x18x160x2048, .fp8e5m2⟩
  | .hbm, ⟨13, _⟩ => ⟨S12x8640x2048, .fp8e5m2⟩
  | .hbm, ⟨14, _⟩ => ⟨S12x3x18x5x2048, .f32⟩
  | .hbm, ⟨15, _⟩ => ⟨S12x270x2048, .f32⟩
  | .hbm, ⟨16, _⟩ => ⟨S12x2880x2048, .fp8e4m3⟩
  | .hbm, ⟨17, _⟩ => ⟨S_, .i32⟩
  | .hbm, ⟨18, _⟩ => ⟨S_, .f32⟩
  | .hbm, ⟨19, _⟩ => ⟨S12x300x2048, .f32⟩
  | .hbm, ⟨20, _⟩ => ⟨S12x5x60x2048, .f32⟩
  | .hbm, ⟨21, _⟩ => ⟨S_, .i32⟩
  | .hbm, ⟨22, _⟩ => ⟨S_, .f32⟩
  | .hbm, ⟨23, _⟩ => ⟨S12x5x64x2048, .f32⟩
  | .hbm, ⟨24, _⟩ => ⟨S12x1x2048, .f32⟩
  | .hbm, ⟨25, _⟩ => ⟨S12x1x2048, .f32⟩
  | .hbm, ⟨26, _⟩ => ⟨S2880x1, .f32⟩
  | .hbm, ⟨27, _⟩ => ⟨S12x2880x2048, .bf16⟩
  | .hbm, ⟨28, _⟩ => ⟨S2880x128, .f32⟩
  | .local _ .vmem, ⟨0, _⟩ => ⟨S2880x1920, .bf16⟩
  | .local _ .vmem, ⟨1, _⟩ => ⟨S2880x1920, .bf16⟩
  | .local _ .vmem, ⟨2, _⟩ => ⟨S1x512x1920, .bf16⟩
  | .local _ .vmem, ⟨3, _⟩ => ⟨S1x512x1920, .bf16⟩
  | .local _ .vmem, ⟨4, _⟩ => ⟨S1x1920x512, .fp8e5m2⟩
  | .local _ .vmem, ⟨5, _⟩ => ⟨S1x1920x512, .fp8e5m2⟩
  | .local _ .vmem, ⟨6, _⟩ => ⟨S1x1x64x512, .f32⟩
  | .local _ .vmem, ⟨7, _⟩ => ⟨S1x1x64x512, .f32⟩
  | .local _ .vmem, ⟨8, _⟩ => ⟨S1x2880x512, .fp8e5m2⟩
  | .local _ .vmem, ⟨9, _⟩ => ⟨S1x2880x512, .fp8e5m2⟩
  | .local _ .vmem, ⟨10, _⟩ => ⟨S1x90x512, .f32⟩
  | .local _ .vmem, ⟨11, _⟩ => ⟨S1x90x512, .f32⟩
  | .local _ .vmem, ⟨12, _⟩ => ⟨S1x2880x512, .fp8e4m3⟩
  | .local _ .vmem, ⟨13, _⟩ => ⟨S1x2880x512, .fp8e4m3⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S2880x1, .f32⟩
  | .local _ .vmem, ⟨19, _⟩ => ⟨S1x2880x512, .bf16⟩
  | .local _ .vmem, ⟨20, _⟩ => ⟨S1x2880x512, .bf16⟩
  | .local _ .vmem, ⟨21, _⟩ => ⟨S2880x128, .f32⟩
  | .local _ .vmem, ⟨22, _⟩ => ⟨S2880x512, .f32⟩
  | .local _ .vmem, ⟨23, _⟩ => ⟨S1920x512, .bf16⟩
  | _, _ => ⟨S2880x17280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_call0_v0 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨2, ![48, 9], ![false, false]⟩

def k0_cond4 (i : grid0.Coords) : BitVec 1 :=
  let arg1 : BitVec 32 := BitVec.ofNat 32 (i 1).val
  let c8_i32_4 : BitVec 32 := 8#32
  let v11 : BitVec 1 := Scalar.cmpi .eq arg1 c8_i32_4
  let v12 : BitVec 32 := Scalar.extui v11
  let c0_i32_5 : BitVec 32 := 0#32
  let v13 : BitVec 1 := Scalar.cmpi .ne v12 c0_i32_5
  v13

def k0_cond5 (i : grid0.Coords) : BitVec 1 :=
  let arg0 : BitVec 32 := BitVec.ofNat 32 (i 0).val
  let c0_i32_225 : BitVec 32 := 0#32
  let v352 : BitVec 1 := Scalar.cmpi .eq arg0 c0_i32_225
  let v353 : BitVec 32 := Scalar.extui v352
  let c0_i32_226 : BitVec 32 := 0#32
  let v354 : BitVec 1 := Scalar.cmpi .ne v353 c0_i32_226
  v354

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c3_i32 : BitVec 32 := 3#32
  let v27 : BitVec 32 := Scalar.minsi arg1 c3_i32
  let c0_i32_10 : BitVec 32 := 0#32
  ![v16.toNat, v26.toNat, v27.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.subi arg1 c4_i32_4
  let c0_i32_5 : BitVec 32 := 0#32
  let v18 : BitVec 32 := Scalar.maxsi v17 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  ![v16.toNat, v18.toNat, v28.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 32 := Scalar.subi arg1 c4_i32_4
  let c0_i32_5 : BitVec 32 := 0#32
  let v18 : BitVec 32 := Scalar.maxsi v17 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v16.toNat, v18.toNat, c0_i32_12.toNat, v28.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2880x1920 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1920x512 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2880x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x90x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2880x512 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2880x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2880x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S2880x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]
-- ==== DxIdeal.lean ====
variable {F : FTy → Type} [FloatOps F] [Named F]
def κ : String → Option EReal := fun
  | "inv_d" => some ((1 / 2880 : ℝ) : EReal)
  | _ => none
-- ==== DxRefIdeal.lean ====
abbrev S2880x17280 : Shape := ⟨2, ![2880, 17280]⟩
abbrev S12x2048x7680 : Shape := ⟨3, ![12, 2048, 7680]⟩
abbrev S12x2048x3x18x160 : Shape := ⟨5, ![12, 2048, 3, 18, 160]⟩
abbrev S12x2048x3x18x5 : Shape := ⟨5, ![12, 2048, 3, 18, 5]⟩
abbrev S12x2048x2880 : Shape := ⟨3, ![12, 2048, 2880]⟩
abbrev S12x2048x90 : Shape := ⟨3, ![12, 2048, 90]⟩
abbrev S12x2048 : Shape := ⟨2, ![12, 2048]⟩
abbrev S2880 : Shape := ⟨1, ![2880]⟩
abbrev S12x2880x2048 : Shape := ⟨3, ![12, 2880, 2048]⟩
abbrev S2880x7680 : Shape := ⟨2, ![2880, 7680]⟩
abbrev S2880x8640 : Shape := ⟨2, ![2880, 8640]⟩
abbrev S12x2048x90x32 : Shape := ⟨4, ![12, 2048, 90, 32]⟩
abbrev S12x2048x90x1 : Shape := ⟨4, ![12, 2048, 90, 1]⟩
abbrev S24576x2880 : Shape := ⟨2, ![24576, 2880]⟩
abbrev S12x2048x3x18x5x32 : Shape := ⟨6, ![12, 2048, 3, 18, 5, 32]⟩
abbrev S12x2048x3x18x5x1 : Shape := ⟨6, ![12, 2048, 3, 18, 5, 1]⟩
abbrev S24576x8640 : Shape := ⟨2, ![24576, 8640]⟩
abbrev S12x2048x1 : Shape := ⟨3, ![12, 2048, 1]⟩
abbrev S24576x7680 : Shape := ⟨2, ![24576, 7680]⟩
abbrev S1x2880 : Shape := ⟨2, ![1, 2880]⟩
abbrev S24576x1 : Shape := ⟨2, ![24576, 1]⟩
abbrev S24576 : Shape := ⟨1, ![24576]⟩

abbrev nBuf : Space → Nat
  | .hbm => 11
  | .vmem => 11
  | .smem => 0
  | _ => 0

abbrev bufTy : (tb : Table) → Fin (tcTables nBuf tb) → BufTy
  | .hbm, ⟨0, _⟩ => ⟨S2880x17280, .bf16⟩
  | .hbm, ⟨1, _⟩ => ⟨S12x2048x7680, .bf16⟩
  | .hbm, ⟨2, _⟩ => ⟨S12x2048x3x18x160, .fp8e5m2⟩
  | .hbm, ⟨3, _⟩ => ⟨S12x2048x3x18x5, .f32⟩
  | .hbm, ⟨4, _⟩ => ⟨S12x2048x2880, .fp8e5m2⟩
  | .hbm, ⟨5, _⟩ => ⟨S12x2048x90, .f32⟩
  | .hbm, ⟨6, _⟩ => ⟨S12x2048x2880, .fp8e4m3⟩
  | .hbm, ⟨7, _⟩ => ⟨S12x2048, .f32⟩
  | .hbm, ⟨8, _⟩ => ⟨S12x2048, .f32⟩
  | .hbm, ⟨9, _⟩ => ⟨S2880, .f32⟩
  | .hbm, ⟨10, _⟩ => ⟨S12x2880x2048, .bf16⟩
  | .local _ .vmem, ⟨0, _⟩ => ⟨S2880x17280, .bf16⟩
  | .local _ .vmem, ⟨1, _⟩ => ⟨S12x2048x7680, .bf16⟩
  | .local _ .vmem, ⟨2, _⟩ => ⟨S12x2048x3x18x160, .fp8e5m2⟩
  | .local _ .vmem, ⟨3, _⟩ => ⟨S12x2048x3x18x5, .f32⟩
  | .local _ .vmem, ⟨4, _⟩ => ⟨S12x2048x2880, .fp8e5m2⟩
  | .local _ .vmem, ⟨5, _⟩ => ⟨S12x2048x90, .f32⟩
  | .local _ .vmem, ⟨6, _⟩ => ⟨S12x2048x2880, .fp8e4m3⟩
  | .local _ .vmem, ⟨7, _⟩ => ⟨S12x2048, .f32⟩
  | .local _ .vmem, ⟨8, _⟩ => ⟨S12x2048, .f32⟩
  | .local _ .vmem, ⟨9, _⟩ => ⟨S2880, .f32⟩
  | .local _ .vmem, ⟨10, _⟩ => ⟨S12x2880x2048, .bf16⟩
  | _, _ => ⟨S2880x17280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2880x17280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x7680 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x2048x3x18x160 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x3x18x5 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x2880 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x2048x90 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x2048x2880 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S12x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2880 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S12x2880x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.DwOut.Kernel.lean ====
module

public import proofs.«01_k».proof.Proof.Gen.DwOutIdeal.Value
public import Idealize.ShloMosaic.Lib.Pipeline.ValueKit
public import Idealize.ShloMosaic.Lib.Pointwise
public import Idealize.ShloMosaic.Lib.StableHlo.Run

@[expose] public section

noncomputable section

namespace Cert.DwOutIdeal.Sum

open Cert.DwOutIdeal Cert.DwOutIdeal.Gen Idealize.ShloMosaic Idealize.ShloMosaic.TcCoe Idealize.SL.Sem
open Idealize.ShloMosaic.Pipeline (Dat)

variable (m : (ℓ : Loc nD τ sig) → Buf (Elt Ideal) ℓ)

/-- The scaled cotangent block that the body rebuilds: codes times block scale times row scale. -/
def lhs (x0 : Vec Ideal S1x2880x2048 .fp8e5m2) (x1 : Vec Ideal S1x90x2048 .f32) (x2 : Vec Ideal S1x1x2048 .f32) (i : S2880x2048.Idx) : EReal :=
  x0 (ix3 0 (i 0) (i 1)) * x1 (ix3 0 ⟨(i 0).val / 32, Nat.div_lt_of_lt_mul (i 0).isLt⟩ (i 1)) * x2 (ix3 0 0 (i 1))

/-- One batch's part of the product, from the blocks of one grid point. -/
def part (x0 : Vec Ideal S1x2880x2048 .fp8e5m2) (x1 : Vec Ideal S1x90x2048 .f32) (x2 : Vec Ideal S1x1x2048 .f32) (x3 : Vec Ideal S1x2048x768 .fp8e4m3) (j : S2880x768.Idx) : EReal :=
  ∑ k : Fin 2048, lhs x0 x1 x2 (ix2 (j 0) k) * x3 (ix3 0 k (j 1))

theorem pay_apply (acc : Vec Ideal S2880x768 .f32) (w : Vec Ideal S2880x2048 .bf16) (x3 : Vec Ideal S1x2048x768 .fp8e4m3) (j : S2880x768.Idx) :
    k0_pay1 (F := Ideal) acc (k0_pay122 (F := Ideal) w x3) j = acc j + ∑ k : Fin 2048, w (ix2 (j 0) k) * x3 (ix3 0 k (j 1)) := by
  unfold k0_pay1 k0_pay122
  pointwise [dot_S2880x2048_S2048x768_S2880x768_1_0_0_1_n_n]

theorem pay_eq (acc : Vec Ideal S2880x768 .f32) (w : Vec Ideal S2880x2048 .bf16) (x0 : Vec Ideal S1x2880x2048 .fp8e5m2) (x1 : Vec Ideal S1x90x2048 .f32) (x2 : Vec Ideal S1x1x2048 .f32) (x3 : Vec Ideal S1x2048x768 .fp8e4m3)
    (j : S2880x768.Idx) (a : EReal) (ha : acc j = a) (hw : ∀ y, w y = lhs x0 x1 x2 y) :
    k0_pay1 (F := Ideal) acc (k0_pay122 (F := Ideal) w x3) j = a + part x0 x1 x2 x3 j := by
  obtain rfl : w = lhs x0 x1 x2 := funext hw
  rw [pay_apply, ha]; rfl

theorem lhs_eq (x0 : Vec Ideal S1x2880x2048 .fp8e5m2) (x1 : Vec Ideal S1x90x2048 .f32) (x2 : Vec Ideal S1x1x2048 .f32) (y : S2880x2048.Idx) (d : Fin 2880) (r : Fin 90) (k : Fin 2048)
    (hd : (y 0).val = d.val) (hr : d.val / 32 = r.val) (hk : (y 1).val = k.val) :
    x0 (ix3 0 d k) * x1 (ix3 0 r k) * x2 (ix3 0 0 k) = lhs x0 x1 x2 y := by
  obtain rfl : y 0 = d := Fin.ext hd
  obtain rfl : y 1 = k := Fin.ext hk
  obtain rfl : (⟨(y 0).val / 32, Nat.div_lt_of_lt_mul (y 0).isLt⟩ : Fin 90) = r := Fin.ext hr
  rfl

theorem pay3_apply (j : S2880x768.Idx) : k0_pay3 (F := Ideal) j = 0 := by
  unfold k0_pay3
  pointwise

theorem pay2_apply (acc : Vec Ideal S2880x768 .f32) (j : S2880x768.Idx) : k0_pay2 (F := Ideal) acc j = acc j := by
  unfold k0_pay2
  pointwise

set_option maxHeartbeats 4000000 in
theorem acc_A (c : Dev nD) (t : Fin cfg0.N) (h : t.val % 12 = 0) (j : S2880x768.Idx) :
    (outsAt0 m c t.val t.isLt).2 j = 0 + part (iblk m c 0 t) (iblk m c 1 t) (iblk m c 2 t) (iblk m c 3 t) j := by
  rw [outsAt0_A m c t h (by omega)]; frame_out
  refine pay_eq _ _ (iblk m c 0 t) (iblk m c 1 t) (iblk m c 2 t) (iblk m c 3 t) j _ (pay3_apply j) ?_
  generalize (iblk m c 0 t : Vec Ideal S1x2880x2048 .fp8e5m2) = x0
  generalize (iblk m c 1 t : Vec Ideal S1x90x2048 .f32) = x1
  generalize (iblk m c 2 t : Vec Ideal S1x1x2048 .f32) = x2
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact lhs_eq x0 x1 x2 y _ _ _ h0 (by dsimp only; omega) h1

set_option maxHeartbeats 4000000 in
theorem acc_B (c : Dev nD) (t : Fin cfg0.N) (h : ¬t.val % 12 = 0) (h1 : ¬t.val % 12 = 11) (j : S2880x768.Idx) :
    (outsAt0 m c t.val t.isLt).2 j = (outsAt0 m c (t.val - 1) (Nat.lt_of_le_of_lt (Nat.sub_le _ _) t.isLt)).2 j + part (iblk m c 0 t) (iblk m c 1 t) (iblk m c 2 t) (iblk m c 3 t) j := by
  rw [outsAt0_B m c t h h1]; frame_out
  refine pay_eq _ _ (iblk m c 0 t) (iblk m c 1 t) (iblk m c 2 t) (iblk m c 3 t) j _ (congrFun ((Memref.isWhole_whole cc0_scratch0).read_unread _) j) ?_
  generalize (iblk m c 0 t : Vec Ideal S1x2880x2048 .fp8e5m2) = x0
  generalize (iblk m c 1 t : Vec Ideal S1x90x2048 .f32) = x1
  generalize (iblk m c 2 t : Vec Ideal S1x1x2048 .f32) = x2
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact lhs_eq x0 x1 x2 y _ _ _ h0 (by dsimp only; omega) h1

set_option maxHeartbeats 4000000 in
theorem acc_C (c : Dev nD) (t : Fin cfg0.N) (h : ¬t.val % 12 = 0) (h1 : t.val % 12 = 11) (j : S2880x768.Idx) :
    (outsAt0 m c t.val t.isLt).2 j = (outsAt0 m c (t.val - 1) (Nat.lt_of_le_of_lt (Nat.sub_le _ _) t.isLt)).2 j + part (iblk m c 0 t) (iblk m c 1 t) (iblk m c 2 t) (iblk m c 3 t) j := by
  rw [outsAt0_C m c t h h1]; frame_out
  refine pay_eq _ _ (iblk m c 0 t) (iblk m c 1 t) (iblk m c 2 t) (iblk m c 3 t) j _ (congrFun ((Memref.isWhole_whole cc0_scratch0).read_unread _) j) ?_
  generalize (iblk m c 0 t : Vec Ideal S1x2880x2048 .fp8e5m2) = x0
  generalize (iblk m c 1 t : Vec Ideal S1x90x2048 .f32) = x1
  generalize (iblk m c 2 t : Vec Ideal S1x1x2048 .f32) = x2
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact lhs_eq x0 x1 x2 y _ _ _ h0 (by dsimp only; omega) h1

/-- What the carried sum holds at the last batch of a column block: the parts of all its batches. -/
theorem acc_eq (c : Dev nD) (t : Fin cfg0.N) (hr : t.val % 12 = 12 - 1) (j : S2880x768.Idx) :
    (outsAt0 m c t.val t.isLt).2 j = ∑ s : Fin 12, part (iblk m c 0 ⟨12 * (t.val / 12) + s.val, Pipeline.run_point_lt_of_flush t hr s⟩) (iblk m c 1 ⟨12 * (t.val / 12) + s.val, Pipeline.run_point_lt_of_flush t hr s⟩) (iblk m c 2 ⟨12 * (t.val / 12) + s.val, Pipeline.run_point_lt_of_flush t hr s⟩) (iblk m c 3 ⟨12 * (t.val / 12) + s.val, Pipeline.run_point_lt_of_flush t hr s⟩) j := by
  rw [Pipeline.eq_sum_fin_of_reset_step_apply_of_flush (fun n h => (outsAt0 m c n h).2) 12 (fun _ => (0 : EReal)) (fun t j => part (iblk m c 0 t) (iblk m c 1 t) (iblk m c 2 t) (iblk m c 3 t) j)
    (fun t h j => acc_A m c t (by omega) j)
    (fun t h j => by
      by_cases h1 : t.val % 12 = 11
      · exact acc_C m c t h h1 j
      · exact acc_B m c t h h1 j) t hr j, zero_add]

/-- What is written back at the last batch of a column block: the finished sum. -/
theorem out_eq (c : Dev nD) (t : Fin cfg0.N) (hr : t.val % 12 = 11) (j : S2880x768.Idx) :
    (outsAt0 m c t.val t.isLt).1 j = (show EReal from (outsAt0 m c t.val t.isLt).2 j) := by
  rw [outsAt0_C m c t (by omega) hr]
  frame_out
  rw [pay2_apply]

theorem idx0 : ∀ t : Fin cfg0.N, win0_0.index t (0 : Fin 3) = t.val % 12 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val % 12 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val % 12 ∧ win0_2.index t (1 : Fin 3) = 0 ∧ win0_2.index t (2 : Fin 3) = 0 :=
  (by decide +kernel : ∀ t : Fin grid0.N, _)
theorem idx3 : ∀ t : Fin cfg0.N, win0_3.index t (0 : Fin 3) = t.val % 12 ∧ win0_3.index t (1 : Fin 3) = 0 ∧ win0_3.index t (2 : Fin 3) = t.val / 12 :=
  (by decide +kernel : ∀ t : Fin grid0.N, _)

/-- The arrays as the grid finds them: codes and block scales transposed, row scales with a unit axis. -/
theorem V0 (c : Dev nD) : (V m c main_v0 : Vec Ideal S12x2880x2048 .fp8e5m2) = transpose S12x2880x2048 [0, 2, 1] (m ((c : Thread nD τ).loc main_arg0) : Vec Ideal S12x2048x2880 .fp8e5m2) transposes_S12x2048x2880_S12x2880x2048_0_2_1 := by
  unfold V hostOps0
  after_results
theorem V1 (c : Dev nD) : (V m c main_v1 : Vec Ideal S12x90x2048 .f32) = transpose S12x90x2048 [0, 2, 1] (m ((c : Thread nD τ).loc main_arg1) : Vec Ideal S12x2048x90 .f32) transposes_S12x2048x90_S12x90x2048_0_2_1 := by
  unfold V hostOps0
  after_results
theorem V2 (c : Dev nD) : (V m c main_v2 : Vec Ideal S12x1x2048 .f32) = shapeCast S12x1x2048 (m ((c : Thread nD τ).loc main_arg3) : Vec Ideal S12x2048 .f32) shapeCasts_S12x2048_S12x1x2048 := by
  unfold V hostOps0
  after_results
  rfl

theorem blk0 (c : Dev nD) (t : Fin cfg0.N) (d : Fin 2880) (k : Fin 2048) (b : Fin 12) (hb : b.val = t.val % 12) :
    (iblk m c 0 t : Vec Ideal S1x2880x2048 .fp8e5m2) (ix3 0 d k) = (m ((c : Thread nD τ).loc main_arg0) : Vec Ideal S12x2048x2880 .fp8e5m2) (ix3 b k d) := by
  obtain ⟨e0, e1, e2⟩ := idx0 t
  have h : (iblk m c 0 t : Vec Ideal S1x2880x2048 .fp8e5m2) (ix3 0 d k) = (V m c main_v0 : Vec Ideal S12x2880x2048 .fp8e5m2) (ix3 b d k) := by
    blk_ext [iblk, e0, e1, e2, hb]
  rw [h, V0]
  pointwise

theorem blk1 (c : Dev nD) (t : Fin cfg0.N) (r : Fin 90) (k : Fin 2048) (b : Fin 12) (hb : b.val = t.val % 12) :
    (iblk m c 1 t : Vec Ideal S1x90x2048 .f32) (ix3 0 r k) = (m ((c : Thread nD τ).loc main_arg1) : Vec Ideal S12x2048x90 .f32) (ix3 b k r) := by
  obtain ⟨e0, e1, e2⟩ := idx1 t
  have h : (iblk m c 1 t : Vec Ideal S1x90x2048 .f32) (ix3 0 r k) = (V m c main_v1 : Vec Ideal S12x90x2048 .f32) (ix3 b r k) := by
    blk_ext [iblk, e0, e1, e2, hb]
  rw [h, V1]
  pointwise

theorem blk2 (c : Dev nD) (t : Fin cfg0.N) (k : Fin 2048) (b : Fin 12) (hb : b.val = t.val % 12) :
    (iblk m c 2 t : Vec Ideal S1x1x2048 .f32) (ix3 0 0 k) = (m ((c : Thread nD τ).loc main_arg3) : Vec Ideal S12x2048 .f32) (ix2 b k) := by
  obtain ⟨e0, e1, e2⟩ := idx2 t
  have h : (iblk m c 2 t : Vec Ideal S1x1x2048 .f32) (ix3 0 0 k) = (V m c main_v2 : Vec Ideal S12x1x2048 .f32) (ix3 b 0 k) := by
    blk_ext [iblk, e0, e1, e2, hb]
  rw [h, V2]
  unfold shapeCast
  refine congrArg _ (Shape.reshapeEquiv_eq_of_rowMajor _ ?_)
  refine (Shape.rowMajor_val_two (d := ![12, 2048]) _).trans (Eq.trans ?_ (Shape.rowMajor_val_three (d := ![12, 1, 2048]) _).symm)
  show b.val * 2048 + k.val = (b.val * 1 + 0) * 2048 + k.val
  omega

theorem blk3 (c : Dev nD) (t : Fin cfg0.N) (k : Fin 2048) (f : Fin 768) (b : Fin 12) (f' : Fin 7680) (hb : b.val = t.val % 12) (hf : f'.val = t.val / 12 * 768 + f.val) :
    (iblk m c 3 t : Vec Ideal S1x2048x768 .fp8e4m3) (ix3 0 k f) = (m ((c : Thread nD τ).loc main_arg2) : Vec Ideal S12x2048x7680 .fp8e4m3) (ix3 b k f') := by
  obtain ⟨e0, e1, e2⟩ := idx3 t
  rw [← V_main_arg2 m c]
  blk_ext [iblk, e0, e1, e2, hb, hf]

/-- The sum over all batches and rows: code times block scale times row scale, times the other factor's code. -/
def dwOut (a0 : Vec Ideal S12x2048x2880 .fp8e5m2) (a1 : Vec Ideal S12x2048x90 .f32) (a2 : Vec Ideal S12x2048x7680 .fp8e4m3) (a3 : Vec Ideal S12x2048 .f32) (i : S2880x7680.Idx) : EReal :=
  ∑ b : Fin 12, ∑ k : Fin 2048, a0 (ix3 b k (i 0)) * a1 (ix3 b k ⟨(i 0).val / 32, Nat.div_lt_of_lt_mul (i 0).isLt⟩) * a3 (ix2 b k) * a2 (ix3 b k (i 1))

/-- The result array at an index. -/
theorem G4_apply (c : Dev nD) (i : S2880x7680.Idx) :
    (Cert.DwOutIdeal.Value.G4 m c : Vec Ideal S2880x7680 .bf16) i
      = dwOut (m ((c : Thread nD τ).loc main_arg0)) (m ((c : Thread nD τ).loc main_arg1)) (m ((c : Thread nD τ).loc main_arg2)) (m ((c : Thread nD τ).loc main_arg3)) i := by
  have h0 : (i 0).val < 2880 := (i 0).isLt
  have h1 : (i 1).val < 7680 := (i 1).isLt
  have hN : cfg0.N = 120 := N_0
  have hp : Value.pt4Of i = 12 * ((i 1).val / 768) + 11 := by
    show 12 * (10 * ((i 0).val / 2880 - 0) + 1 * ((i 1).val / 768 - 0)) + 11 = _
    omega
  have hlt : Value.pt4Of i < cfg0.N := by omega
  have hl : Value.loc4Of i = ix2 ⟨(i 0).val, h0⟩ ⟨(i 1).val % 768, Nat.mod_lt _ (by decide)⟩ := by
    funext a; apply Fin.ext
    match a with
    | ⟨0, _⟩ => exact Nat.mod_eq_of_lt h0
    | ⟨1, _⟩ => rfl
  unfold Value.G4
  rw [dif_pos hlt, ← Value.outsAt0_sweep m c _ hlt, hl]
  refine (out_eq m c ⟨_, hlt⟩ (by dsimp only; omega) _).trans ?_
  refine (acc_eq m c ⟨_, hlt⟩ (by dsimp only; omega) _).trans ?_
  show (_ : EReal) = _
  dsimp only
  unfold dwOut
  refine Finset.sum_congr rfl fun b _ => ?_
  unfold part
  refine Finset.sum_congr rfl fun k _ => ?_
  have hb : b.val = (12 * (Value.pt4Of i / 12) + b.val) % 12 := by have := b.isLt; omega
  unfold lhs
  refine congrArg₂ (· * ·) (congrArg₂ (· * ·) (congrArg₂ (· * ·) (blk0 m c _ _ _ b hb) (blk1 m c _ _ _ b hb)) (blk2 m c _ _ b hb)) (blk3 m c _ _ _ b (i 1) hb ?_)
  have := b.isLt
  show (i 1).val = (12 * (Value.pt4Of i / 12) + b.val) / 12 * 768 + (i 1).val % 768
  omega

end Cert.DwOutIdeal.Sum
-- ==== Proof.DwOut.Ref.lean ====
module

public import proofs.«01_k».proof.Proof.Gen.DwOutRefIdeal.Value
public import Idealize.ShloMosaic.Lib.Pipeline.ValueKit
public import Idealize.ShloMosaic.Lib.Pointwise

@[expose] public section

noncomputable section

namespace Cert.DwOutRefIdeal.Sum

open Cert.DwOutRefIdeal Cert.DwOutRefIdeal.Gen Idealize.ShloMosaic Idealize.ShloMosaic.TcCoe Idealize.SL.Sem

theorem swap_mul (p q r s : EReal) : p * q * (r * s) = r * s * q * p := by
  rw [mul_comm (p * q), mul_comm p q, mul_assoc (r * s)]

theorem pay1_apply (a0 : Vec Ideal S12x2048x2880 .fp8e5m2) (a1 : Vec Ideal S12x2048x90 .f32) (a2 : Vec Ideal S12x2048x7680 .fp8e4m3) (a3 : Vec Ideal S12x2048 .f32) (i : S2880x7680.Idx) :
    k0_pay1 (F := Ideal) a0 a1 a2 a3 i = ∑ b : Fin 12, ∑ k : Fin 2048, a0 (ix3 b k (i 0)) * a1 (ix3 b k ⟨(i 0).val / 32, Nat.div_lt_of_lt_mul (i 0).isLt⟩) * a3 (ix2 b k) * a2 (ix3 b k (i 1)) := by
  unfold k0_pay1
  pointwise [dot_S24576x7680_S24576x2880_S7680x2880_0_0_1_1_n_n]
  exact Fin.sum_divmod_congr fun _ _ _ => swap_mul _ _ _ _

end Cert.DwOutRefIdeal.Sum
-- ==== Proof.DwOut.Claim.lean ====
module

public import proofs.«01_k».proof.Defs
public import proofs.«01_k».proof.Proof.DwOut.Kernel
public import proofs.«01_k».proof.Proof.DwOut.Ref

@[expose] public section

noncomputable section

namespace Cert.Proof

open Idealize.ShloMosaic Idealize.ShloMosaic.TcCoe Idealize.SL.Sem

/-- `dw_out`: the blockwise sum over the batches is the one product of the reference. -/
theorem algebraic_DwOut : Cert.algebraic_DwOutIdeal_DwOutRefIdeal (hDwOutIdeal := Cert.DwOutIdeal.Gen.facts) (hDwOutRefIdeal := Cert.DwOutRefIdeal.Gen.facts) := by
  intro m g m' g' _ hag
  refine ⟨fun c => Cert.DwOutIdeal.Value.G4 m c, Cert.DwOutIdeal.Value.run m g, (θ_run _ _ _).mono (fun r h c => ?_) (Cert.DwOutRefIdeal.Value.run m' g')⟩
  obtain ⟨hv, hk⟩ := h c
  refine ⟨hv.trans ?_, hk⟩
  obtain ⟨e0, e1, e2, e3⟩ := hag c
  rw [e0, e1, e2, e3]
  funext i
  exact (Cert.DwOutRefIdeal.Sum.pay1_apply _ _ _ _ i).trans (Cert.DwOutIdeal.Sum.G4_apply m c i).symm

end Cert.Proof
-- ==== Proof.DwIn.Kernel.lean ====
module

public import proofs.«01_k».proof.Proof.Gen.DwInIdeal.Value
public import Idealize.ShloMosaic.Lib.Pipeline.ValueKit
public import Idealize.ShloMosaic.Lib.Pointwise
public import Idealize.ShloMosaic.Lib.StableHlo.Run

@[expose] public section

noncomputable section

namespace Cert.DwInIdeal.Sum

open Cert.DwInIdeal Cert.DwInIdeal.Gen Idealize.ShloMosaic Idealize.ShloMosaic.TcCoe Idealize.SL.Sem
open Idealize.ShloMosaic.Pipeline (Dat)

variable (m : (ℓ : Loc nD τ sig) → Buf (Elt Ideal) ℓ)

/-- One batch's part of the product, from the blocks of one grid point. -/
def part (x0 : Vec Ideal S1x2880x2048 .fp8e4m3) (x1 : Vec Ideal S1x1x2048 .f32) (x2 : Vec Ideal S1x2048x768 .bf16) (j : S2880x768.Idx) : EReal :=
  ∑ k : Fin 2048, x0 (ix3 0 (j 0) k) * x1 (ix3 0 0 k) * x2 (ix3 0 k (j 1))

/-- The stored sum is what was there plus the batch's part. -/
theorem pay2_apply (x0 : Vec Ideal S1x2880x2048 .fp8e4m3) (x1 : Vec Ideal S1x1x2048 .f32) (acc : Vec Ideal S2880x768 .f32) (x2 : Vec Ideal S1x2048x768 .bf16) (j : S2880x768.Idx) :
    k0_pay2 (F := Ideal) x0 x1 acc x2 j = acc j + part x0 x1 x2 j := by
  unfold k0_pay2 part
  pointwise [dot_S2880x2048_S2048x768_S2880x768_1_0_0_1_n_n]

theorem pay1_apply (j : S2880x768.Idx) : k0_pay1 (F := Ideal) j = 0 := by
  unfold k0_pay1
  pointwise

theorem pay3_apply (g : Vec Ideal S2880x1 .f32) (acc : Vec Ideal S2880x768 .f32) (j : S2880x768.Idx) :
    k0_pay3 (F := Ideal) g acc j = g (ix2 (j 0) 0) * acc j := by
  unfold k0_pay3
  pointwise

/-- What the carried sum holds after a point: the parts of the batches met so far in its column block. -/
theorem acc_eq (c : Dev nD) (t : Fin cfg0.N) (hr : t.val % 12 = 12 - 1) (j : S2880x768.Idx) :
    (outsAt0 m c t.val t.isLt).2 j = ∑ s : Fin 12, part (iblk m c 0 ⟨12 * (t.val / 12) + s.val, Pipeline.run_point_lt_of_flush t hr s⟩) (iblk m c 1 ⟨12 * (t.val / 12) + s.val, Pipeline.run_point_lt_of_flush t hr s⟩) (iblk m c 2 ⟨12 * (t.val / 12) + s.val, Pipeline.run_point_lt_of_flush t hr s⟩) j := by
  rw [Pipeline.eq_sum_fin_of_reset_step_apply_of_flush (fun n h => (outsAt0 m c n h).2) 12 (fun _ => (0 : EReal)) (fun t j => part (iblk m c 0 t) (iblk m c 1 t) (iblk m c 2 t) j)
    (fun t h j => by
      rw [outsAt0_A m c t h (by omega)]; frame_out; rw [pay2_apply, pay1_apply])
    (fun t h j => by
      by_cases h1 : t.val % 12 = 11
      · rw [outsAt0_C m c t h h1]; frame_out; rw [pay2_apply]; exact congrArg (· + _) (congrFun ((Memref.isWhole_whole cc0_scratch0).read_unread _) j)
      · rw [outsAt0_B m c t h h1]; frame_out; rw [pay2_apply]; exact congrArg (· + _) (congrFun ((Memref.isWhole_whole cc0_scratch0).read_unread _) j)) t hr j, zero_add]

/-- What is written back at the last batch of a column block: the finished sum, times the row's factor. -/
theorem out_eq (c : Dev nD) (t : Fin cfg0.N) (hr : t.val % 12 = 11) (j : S2880x768.Idx) :
    (outsAt0 m c t.val t.isLt).1 j = (show EReal from (iblk m c 3 t : Vec Ideal S2880x1 .f32) (ix2 (j 0) 0)) * (show EReal from (outsAt0 m c t.val t.isLt).2 j) := by
  rw [outsAt0_C m c t (by omega) hr]
  frame_out
  rw [pay3_apply]

theorem idx0 : ∀ t : Fin cfg0.N, win0_0.index t (0 : Fin 3) = t.val % 12 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val % 12 ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val % 12 ∧ win0_2.index t (1 : Fin 3) = 0 ∧ win0_2.index t (2 : Fin 3) = t.val / 12 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The arrays as the grid finds them: the transposed codes, the scales and the factors with a unit axis. -/
theorem V0 (c : Dev nD) : (V m c main_v0 : Vec Ideal S12x2880x2048 .fp8e4m3) = transpose S12x2880x2048 [0, 2, 1] (m ((c : Thread nD τ).loc main_arg0) : Vec Ideal S12x2048x2880 .fp8e4m3) transposes_S12x2048x2880_S12x2880x2048_0_2_1 := by
  unfold V hostOps0
  after_results
theorem V1 (c : Dev nD) : (V m c main_v1 : Vec Ideal S12x1x2048 .f32) = shapeCast S12x1x2048 (m ((c : Thread nD τ).loc main_arg1) : Vec Ideal S12x2048 .f32) shapeCasts_S12x2048_S12x1x2048 := by
  unfold V hostOps0
  after_results
  rfl
theorem V2 (c : Dev nD) : (V m c main_v2 : Vec Ideal S2880x1 .f32) = shapeCast S2880x1 (m ((c : Thread nD τ).loc main_arg3) : Vec Ideal S2880 .f32) shapeCasts_S2880_S2880x1 := by
  unfold V hostOps0
  after_results
  rfl

theorem blk0 (c : Dev nD) (t : Fin cfg0.N) (d : Fin 2880) (k : Fin 2048) (b : Fin 12) (hb : b.val = t.val % 12) :
    (iblk m c 0 t : Vec Ideal S1x2880x2048 .fp8e4m3) (ix3 0 d k) = (m ((c : Thread nD τ).loc main_arg0) : Vec Ideal S12x2048x2880 .fp8e4m3) (ix3 b k d) := by
  obtain ⟨e0, e1, e2⟩ := idx0 t
  have h : (iblk m c 0 t : Vec Ideal S1x2880x2048 .fp8e4m3) (ix3 0 d k) = (V m c main_v0 : Vec Ideal S12x2880x2048 .fp8e4m3) (ix3 b d k) := by
    blk_ext [iblk, e0, e1, e2, hb]
  rw [h, V0]
  pointwise

theorem blk1 (c : Dev nD) (t : Fin cfg0.N) (k : Fin 2048) (b : Fin 12) (hb : b.val = t.val % 12) :
    (iblk m c 1 t : Vec Ideal S1x1x2048 .f32) (ix3 0 0 k) = (m ((c : Thread nD τ).loc main_arg1) : Vec Ideal S12x2048 .f32) (ix2 b k) := by
  obtain ⟨e0, e1, e2⟩ := idx1 t
  have h : (iblk m c 1 t : Vec Ideal S1x1x2048 .f32) (ix3 0 0 k) = (V m c main_v1 : Vec Ideal S12x1x2048 .f32) (ix3 b 0 k) := by
    blk_ext [iblk, e0, e1, e2, hb]
  rw [h, V1]
  unfold shapeCast
  refine congrArg _ (Shape.reshapeEquiv_eq_of_rowMajor _ ?_)
  refine (Shape.rowMajor_val_two (d := ![12, 2048]) _).trans (Eq.trans ?_ (Shape.rowMajor_val_three (d := ![12, 1, 2048]) _).symm)
  show b.val * 2048 + k.val = (b.val * 1 + 0) * 2048 + k.val
  omega

theorem blk2 (c : Dev nD) (t : Fin cfg0.N) (k : Fin 2048) (f : Fin 768) (b : Fin 12) (f' : Fin 7680) (hb : b.val = t.val % 12) (hf : f'.val = t.val / 12 * 768 + f.val) :
    (iblk m c 2 t : Vec Ideal S1x2048x768 .bf16) (ix3 0 k f) = (m ((c : Thread nD τ).loc main_arg2) : Vec Ideal S12x2048x7680 .bf16) (ix3 b k f') := by
  obtain ⟨e0, e1, e2⟩ := idx2 t
  rw [← V_main_arg2 m c]
  blk_ext [iblk, e0, e1, e2, hb, hf]

theorem blk3 (c : Dev nD) (t : Fin cfg0.N) (d : Fin 2880) :
    (iblk m c 3 t : Vec Ideal S2880x1 .f32) (ix2 d 0) = (m ((c : Thread nD τ).loc main_arg3) : Vec Ideal S2880 .f32) (ix1 d) := by
  obtain ⟨e0, e1⟩ := idx3 t
  have h : (iblk m c 3 t : Vec Ideal S2880x1 .f32) (ix2 d 0) = (V m c main_v2 : Vec Ideal S2880x1 .f32) (ix2 d 0) := by
    blk_ext [iblk, e0, e1]
  rw [h, V2]
  pointwise

/-- A row's factor times the sum over all batches and rows. -/
def dwIn (a0 : Vec Ideal S12x2048x2880 .fp8e4m3) (a1 : Vec Ideal S12x2048 .f32) (a2 : Vec Ideal S12x2048x7680 .bf16) (a3 : Vec Ideal S2880 .f32) (i : S2880x7680.Idx) : EReal :=
  a3 (ix1 (i 0)) * ∑ b : Fin 12, ∑ k : Fin 2048, a0 (ix3 b k (i 0)) * a1 (ix2 b k) * a2 (ix3 b k (i 1))

/-- The result array at an index. -/
theorem G4_apply (c : Dev nD) (i : S2880x7680.Idx) :
    (Cert.DwInIdeal.Value.G4 m c : Vec Ideal S2880x7680 .bf16) i
      = dwIn (m ((c : Thread nD τ).loc main_arg0)) (m ((c : Thread nD τ).loc main_arg1)) (m ((c : Thread nD τ).loc main_arg2)) (m ((c : Thread nD τ).loc main_arg3)) i := by
  have h0 : (i 0).val < 2880 := (i 0).isLt
  have h1 : (i 1).val < 7680 := (i 1).isLt
  have hN : cfg0.N = 120 := N_0
  have hp : Value.pt4Of i = 12 * ((i 1).val / 768) + 11 := by
    show 12 * (10 * ((i 0).val / 2880 - 0) + 1 * ((i 1).val / 768 - 0)) + 11 = _
    omega
  have hlt : Value.pt4Of i < cfg0.N := by omega
  have hl : Value.loc4Of i = ix2 ⟨(i 0).val, h0⟩ ⟨(i 1).val % 768, Nat.mod_lt _ (by decide)⟩ := by
    funext a; apply Fin.ext
    match a with
    | ⟨0, _⟩ => exact Nat.mod_eq_of_lt h0
    | ⟨1, _⟩ => rfl
  unfold Value.G4
  rw [dif_pos hlt, ← Value.outsAt0_sweep m c _ hlt, out_eq m c ⟨_, hlt⟩ (by dsimp only; omega), hl]
  rw [acc_eq m c ⟨_, hlt⟩ (by dsimp only; omega)]
  dsimp only
  unfold dwIn
  refine congrArg₂ (· * ·) (blk3 m c _ _) (Finset.sum_congr rfl fun b _ => ?_)
  unfold part
  refine Finset.sum_congr rfl fun k _ => ?_
  have hb : b.val = (12 * (Value.pt4Of i / 12) + b.val) % 12 := by have := b.isLt; omega
  refine congrArg₂ (· * ·) (congrArg₂ (· * ·) (blk0 m c _ _ _ b hb) (blk1 m c _ _ b hb)) (blk2 m c _ _ _ b (i 1) hb ?_)
  have := b.isLt
  show (i 1).val = (12 * (Value.pt4Of i / 12) + b.val) / 12 * 768 + (i 1).val % 768
  omega

end Cert.DwInIdeal.Sum
-- ==== Proof.DwIn.Ref.lean ====
module

public import proofs.«01_k».proof.Proof.Gen.DwInRefIdeal.Value
public import Idealize.ShloMosaic.Lib.Pipeline.ValueKit
public import Idealize.ShloMosaic.Lib.Pointwise

@[expose] public section

noncomputable section

namespace Cert.DwInRefIdeal.Sum

open Cert.DwInRefIdeal Cert.DwInRefIdeal.Gen Idealize.ShloMosaic Idealize.ShloMosaic.TcCoe Idealize.SL.Sem

theorem pay1_apply (a0 : Vec Ideal S12x2048x2880 .fp8e4m3) (a1 : Vec Ideal S12x2048 .f32) (a3 : Vec Ideal S2880 .f32) (a2 : Vec Ideal S12x2048x7680 .bf16) (i : S2880x7680.Idx) :
    k0_pay1 (F := Ideal) a0 a1 a3 a2 i = a3 (ix1 (i 0)) * ∑ b : Fin 12, ∑ k : Fin 2048, a0 (ix3 b k (i 0)) * a1 (ix2 b k) * a2 (ix3 b k (i 1)) := by
  unfold k0_pay1
  pointwise [dot_S24576x2880_S24576x7680_S2880x7680_0_0_1_1_n_n]
  exact congrArg (_ * ·) (Fin.sum_divmod_congr fun _ _ _ => rfl)

end Cert.DwInRefIdeal.Sum
-- ==== Proof.DwIn.Claim.lean ====
module

public import proofs.«01_k».proof.Defs
public import proofs.«01_k».proof.Proof.DwIn.Kernel
public import proofs.«01_k».proof.Proof.DwIn.Ref

@[expose] public section

noncomputable section

namespace Cert.Proof

open Idealize.ShloMosaic Idealize.ShloMosaic.TcCoe Idealize.SL.Sem

/-- `dw_in`: the blockwise sum over the batches is the one product of the reference. -/
theorem algebraic_DwIn : Cert.algebraic_DwInIdeal_DwInRefIdeal (hDwInIdeal := Cert.DwInIdeal.Gen.facts) (hDwInRefIdeal := Cert.DwInRefIdeal.Gen.facts) := by
  intro m g m' g' _ hag
  refine ⟨fun c => Cert.DwInIdeal.Value.G4 m c, Cert.DwInIdeal.Value.run m g, (θ_run _ _ _).mono (fun r h c => ?_) (Cert.DwInRefIdeal.Value.run m' g')⟩
  obtain ⟨hv, hk⟩ := h c
  refine ⟨hv.trans ?_, hk⟩
  obtain ⟨e0, e1, e2, e3⟩ := hag c
  rw [e0, e1, e2, e3]
  funext i
  exact (Cert.DwInRefIdeal.Sum.pay1_apply _ _ _ _ i).trans (Cert.DwInIdeal.Sum.G4_apply m c i).symm

end Cert.Proof
-- ==== Proof.DwQkv.Bits.Cases.lean ====
/- The branch conditions of the body in closed form over the grid points, where the output windows are idle, and the
   staging and scratch buffers under short names. -/
module

public import proofs.«01_k».proof.Proof.Gen.DwQkv.Frame
public import proofs.«01_k».proof.Proof.Gen.DwQkv.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The body's condition 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 204 := Nat.lt_of_lt_of_eq t.isLt N_0
    have e0 : (grid0.coords t 0).val = t.val / 12 % 17 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The body's condition 1, from the grid coordinates. -/
abbrev cond0_1 (i : grid0.Coords) : Prop := k0_cond2 i = 1#1
/-- It holds at the points ≡ 11 (mod 12) — by arithmetic of the point. -/
theorem hcond0_1 : ∀ t : Fin cfg0.N, cond0_1 (grid0.coords t) ↔ t.val % 12 = 11 :=
  (fun t => by
    have ht : t.val < 204 := Nat.lt_of_lt_of_eq t.isLt N_0
    have e0 : (grid0.coords t 0).val = t.val / 12 % 17 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x2880x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2880x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2880 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2880x512 .f32 := Memref.whole cc0_scratch0
abbrev scM0_1 : Memref sig .tc .vmem S512x2048 .bf16 := Memref.whole cc0_scratch1
/-- The scratch `arg8` the kernel carries between points, as a view: what it holds is stated through it. -/
abbrev VS0_0 : View sig .tc .vmem S2880x512 .f32 := scM0_0.view

/-- The frame kit's invariant with the scratch operands as memrefs owned at some contents:
    what the body is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DwQkv.Gen

end
-- ==== Proof.DwQkv.Bits.RunA.lean ====
/- The run of the whole body in case A of its conditionals. -/
module

public import proofs.«01_k».proof.Proof.DwQkv.Bits.Cases

@[expose] public section

set_option maxRecDepth 16384

noncomputable section

namespace Cert.DwQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_A (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : cond0_0 i) (hc1 : ¬cond0_1 i)
    (x0 : Vec F S1x2880x2048 .fp8e4m3) (x1 : Vec F S1x1x2048 .f32) (x2 : Vec F S1x512x2048 .fp8e5m2) (x3 : Vec F S1x16x2048 .f32) (x4 : Vec F S2880x1 .f32) :
    Σ' (LS0 : List (View.Piece (Elt F) S2880x512 .f32)), { LT1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨?_, ?_, fun E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]; · iexists _; iexact HS0
    iexists _; iexact HS1

end Cert.DwQkv.Gen

end
-- ==== Proof.DwQkv.Bits.RunB.lean ====
/- The run of the whole body in case B of its conditionals. -/
module

public import proofs.«01_k».proof.Proof.DwQkv.Bits.RunA

@[expose] public section

set_option maxRecDepth 16384

noncomputable section

namespace Cert.DwQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_B (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : ¬cond0_0 i) (hc1 : ¬cond0_1 i)
    (x0 : Vec F S1x2880x2048 .fp8e4m3) (x1 : Vec F S1x1x2048 .f32) (x2 : Vec F S1x512x2048 .fp8e5m2) (x3 : Vec F S1x16x2048 .f32) (x4 : Vec F S2880x1 .f32) (xs0 : Vec F S2880x512 .f32) :
    Σ' (LS0 : List (View.Piece (Elt F) S2880x512 .f32)), { LT1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨?_, ?_, fun E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]; · iexists _; iexact HS0
    iexists _; iexact HS1

end Cert.DwQkv.Gen

end
-- ==== Proof.DwQkv.Bits.RunC.lean ====
/- The run of the whole body in case C of its conditionals. -/
module

public import proofs.«01_k».proof.Proof.DwQkv.Bits.RunB

@[expose] public section

set_option maxRecDepth 16384

noncomputable section

namespace Cert.DwQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : ¬cond0_0 i) (hc1 : cond0_1 i)
    (x0 : Vec F S1x2880x2048 .fp8e4m3) (x1 : Vec F S1x1x2048 .f32) (x2 : Vec F S1x512x2048 .fp8e5m2) (x3 : Vec F S1x16x2048 .f32) (x4 : Vec F S2880x1 .f32) (xs0 : Vec F S2880x512 .f32) :
    Σ' (LS0 : List (View.Piece (Elt F) S2880x512 .f32)), { LT1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨?_, ?_, fun E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]; · iexists _; iexact HS0
    iexists _; iexact HS1

end Cert.DwQkv.Gen

end
-- ==== Proof.DwQkv.Bits.Frame.lean ====
module

public import proofs.«01_k».proof.Proof.DwQkv.Bits.RunC

@[expose] public section

set_option maxRecDepth 16384

noncomputable section

namespace Cert.DwQkv.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the frame: no buffer's contents are named, neither the staging buffers' (all of them forgotten
    below: the last blocks along the columns overhang their arrays) nor the scratch buffers'. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window is forgotten: its buffer is handed to the body at anything and taken back at anything. -/
def forgets0 : Fin 6 → Bool := fun _ => true

theorem A_eq (c : Dev nD) (w : Fin cfg0.W) : (dats m 0 c).A w = V m c (Pipeline.arrRef spec0 w) := by
  dsimp only [dats]

/-- What the body is called with at a point: the scratch buffers and the staging buffers, all at anything; and what it returns. -/
def bodyInv (c : Dev nD) (t : Fin cfg0.N) : sProp 𝕄 :=
  iprop(iprop(iprop((∃ d, owns (c : Thread nD τ) scM0_0 fullShare d) ∗ (∃ d, owns (c : Thread nD τ) scM0_1 fullShare d)) ∗ (∃ r, prngReg c r))
    ∗ (dats m 0 c).owesAt () t.castSucc
    ∗ (∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X))

set_option maxHeartbeats 9600000 in
/-- The body at any point, by the run of the case the point is in. -/
theorem sound_body (c : Dev nD) (t : Fin cfg0.N) :
    bodyInv m c t ⊢ wp frame (wpE (defs₀ (F := F)) Variants.none c none) Set.univ (bodyAt0 t) (fun _ => bodyInv m c t) := by
  unfold bodyInv bodyAt0
  have hN : t.val < 204 := lt_of_lt_of_eq t.isLt (show cfg0.N = 204 from N_0)
  iintro ⟨⟨⟨HS0, HS1⟩, Hg⟩, Ho, ⟨%x0, H0⟩, ⟨%x1, H1⟩, ⟨%x2, H2⟩, ⟨%x3, H3⟩, ⟨%x4, H4⟩, ⟨%x5, H5⟩⟩
  by_cases h0 : t.val % 12 = 0
  · have h1 : ¬t.val % 12 = 11 := by omega
    iapply ((kernelRun0_A c (grid0.coords t) _ _ _ _ _ _ _ _ _ _ _ _ _ _ _ _ ((hcond0_0 t).mpr h0) (fun h => h1 ((hcond0_1 t).mp h)) x0 x1 x2 x3 x4).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, ⟨%es0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    iexact H5
  · icases HS0 with ⟨%xs0, HS0⟩
    by_cases h1 : t.val % 12 = 11
    · iapply ((kernelRun0_C c (grid0.coords t) _ _ _ _ _ _ _ _ _ _ _ _ _ _ _ _ (fun h => h0 ((hcond0_0 t).mp h)) ((hcond0_1 t).mpr h1) x0 x1 x2 x3 x4 xs0).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, ⟨%es0, HS0⟩, ⟨%fT1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      iexact H5
    · iapply ((kernelRun0_B c (grid0.coords t) _ _ _ _ _ _ _ _ _ _ _ _ _ _ _ _ (fun h => h0 ((hcond0_0 t).mp h)) (fun h => h1 ((hcond0_1 t).mp h)) x0 x1 x2 x3 x4 xs0).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, ⟨%es0, HS0⟩, ⟨%fT1, HS1⟩⟩
      isplitl [HS0 HS1 Hg]
      · isplitl [HS0 HS1]
        · isplitl [HS0]
          · iexists _; unfold owns; iexists _; isplitr
            swap; · iexact HS0
            ipureintro; rfl
          iexists _; unfold owns; iexists _; isplitr
          swap; · iexact HS1
          ipureintro; rfl
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row, show (dats m 0 c).Φ t.castSucc = Pipeline.ΦA spec0 c from rfl, show (dats m 0 c).Φ t.succ = Pipeline.ΦA spec0 c from rfl, PhiA0_eq]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main_quiescent m ρ)

end Cert.DwQkv.Gen
-- ==== Proof.DwQkv.Ideal.Cases.lean ====
/- The branch conditions of the body in closed form over the grid points, where the output windows are idle, and the
   staging and scratch buffers under short names. -/
module

public import proofs.«01_k».proof.Proof.Gen.DwQkvIdeal.Frame
public import proofs.«01_k».proof.Proof.Gen.DwQkvIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.DwQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The body's condition 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 12) — by arithmetic of the point. -/
theorem hcond0_0 : ∀ t : Fin cfg0.N, cond0_0 (grid0.coords t) ↔ t.val % 12 = 0 :=
  (fun t => by
    have ht : t.val < 204 := Nat.lt_of_lt_of_eq t.isLt N_0
    have e0 : (grid0.coords t 0).val = t.val / 12 % 17 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- The body's condition 1, from the grid coordinates. -/
abbrev cond0_1 (i : grid0.Coords) : Prop := k0_cond2 i = 1#1
/-- It holds at the points ≡ 11 (mod 12) — by arithmetic of the point. -/
theorem hcond0_1 : ∀ t : Fin cfg0.N, cond0_1 (grid0.coords t) ↔ t.val % 12 = 11 :=
  (fun t => by
    have ht : t.val < 204 := Nat.lt_of_lt_of_eq t.isLt N_0
    have e0 : (grid0.coords t 0).val = t.val / 12 % 17 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel

/-! ## The kernel body on any staging memrefs: a subtype the run finds -/

/-- One staging buffer of output window 5, through which its contents are stated (`View.read_writes_of_cover`: the
    choice does not matter). -/
abbrev VO0_5 : View sig .tc .vmem S512x2880 .bf16 := (Memref.whole cc0_stg5_0 : Memref sig .tc .vmem S512x2880 .bf16).view
/-- Each window's current staging memref at point `t`, spelled as the pipeline passes it (`bodyAt0`), and its wholeness. -/
abbrev ms0_0 (t : Fin cfg0.N) : Memref sig .tc .vmem S1x2880x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x16x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2880x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x2880 .bf16 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S2880x512 .f32 := Memref.whole cc0_scratch0
abbrev scM0_1 : Memref sig .tc .vmem S512x2048 .bf16 := Memref.whole cc0_scratch1
/-- The scratch `arg8` the kernel carries between points, as a view: what it holds is stated through it. -/
abbrev VS0_0 : View sig .tc .vmem S2880x512 .f32 := scM0_0.view

/-- The frame kit's invariant with the scratch operands as memrefs owned at some contents:
    what the body is handed and what it gives back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DwQkvIdeal.Gen

end
-- ==== Proof.DwQkv.Ideal.RunA.lean ====
/- The run of the whole body in case A of its conditionals. -/
module

public import proofs.«01_k».proof.Proof.DwQkv.Ideal.Cases

@[expose] public section

set_option maxRecDepth 16384

noncomputable section

namespace Cert.DwQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_A (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : cond0_0 i) (hc1 : ¬cond0_1 i)
    (x0 : Vec F S1x2880x2048 .fp8e4m3) (x1 : Vec F S1x1x2048 .f32) (x2 : Vec F S1x512x2048 .fp8e5m2) (x3 : Vec F S1x16x2048 .f32) (x4 : Vec F S2880x1 .f32) :
    Σ' (L5 : List (View.Piece (Elt F) S512x2880 .bf16)), Σ' (LS0 : List (View.Piece (Elt F) S2880x512 .f32)), { LT1 : List (View.Piece (Elt F) S512x2048 .bf16) //
      ∀ (xi5 : Vec F S512x2880 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨[], ?_, ?_, fun xi5 E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.DwQkvIdeal.Gen

end
-- ==== Proof.DwQkv.Ideal.RunB.lean ====
/- The run of the whole body in case B of its conditionals. -/
module

public import proofs.«01_k».proof.Proof.DwQkv.Ideal.RunA

@[expose] public section

set_option maxRecDepth 16384

noncomputable section

namespace Cert.DwQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_B (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : ¬cond0_0 i) (hc1 : ¬cond0_1 i)
    (x0 : Vec F S1x2880x2048 .fp8e4m3) (x1 : Vec F S1x1x2048 .f32) (x2 : Vec F S1x512x2048 .fp8e5m2) (x3 : Vec F S1x16x2048 .f32) (x4 : Vec F S2880x1 .f32) (xs0 : Vec F S2880x512 .f32) :
    Σ' (L5 : List (View.Piece (Elt F) S512x2880 .bf16)), Σ' (LS0 : List (View.Piece (Elt F) S2880x512 .f32)), { LT1 : List (View.Piece (Elt F) S512x2048 .bf16) //
      ∀ (xi5 : Vec F S512x2880 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨[], ?_, ?_, fun xi5 E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.DwQkvIdeal.Gen

end
-- ==== Proof.DwQkv.Ideal.RunC.lean ====
/- The run of the whole body in case C of its conditionals. -/
module

public import proofs.«01_k».proof.Proof.DwQkv.Ideal.RunB

@[expose] public section

set_option maxRecDepth 16384

noncomputable section

namespace Cert.DwQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg8 : Memref sig .tc .vmem S2880x512 .f32) (harg8 : arg8.IsWhole) (arg9 : Memref sig .tc .vmem S512x2048 .bf16) (harg9 : arg9.IsWhole) (hc0 : ¬cond0_0 i) (hc1 : cond0_1 i)
    (x0 : Vec F S1x2880x2048 .fp8e4m3) (x1 : Vec F S1x1x2048 .f32) (x2 : Vec F S1x512x2048 .fp8e5m2) (x3 : Vec F S1x16x2048 .f32) (x4 : Vec F S2880x1 .f32) (xs0 : Vec F S2880x512 .f32) :
    Σ' (L5 : List (View.Piece (Elt F) S512x2880 .bf16)), Σ' (LS0 : List (View.Piece (Elt F) S2880x512 .f32)), { LT1 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LT1)) -∗ K ⟨⟩))
          ⊢ wp frame (wpE (defs₀ (F := F)) Variants.none c none) E (cc0_dw_qkv i arg2 harg2 arg3 harg3 arg4 harg4 arg5 harg5 arg6 harg6 arg7 harg7 arg8 harg8 arg9 harg9) K } := by
  refine ⟨?_, ?_, ?_, fun E K => ?run⟩
  case run =>
    simp only [cc0_dw_qkv_eq_skeleton]; unfold cc0_dw_qkv_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.DwQkvIdeal.Gen

end
-- ==== Proof.DwQkv.Ideal.Acc.lean ====
module

public import proofs.«01_k».proof.Proof.DwQkv.Ideal.RunC
public import Idealize.ShloMosaic.Lib.Pipeline.ValueKit
public import Idealize.ShloMosaic.Lib.Pointwise

@[expose] public section

set_option maxRecDepth 16384

noncomputable section

namespace Cert.DwQkvIdeal.Gen

open Idealize.ShloMosaic Idealize.ShloMosaic.TcCoe Idealize.SL.Sem

/-- One batch's part of the product, from the blocks of one grid point: the activation block times its row scale, against
    the cotangent codes times their block scales. -/
def part (x0 : Vec Ideal S1x2880x2048 .fp8e4m3) (x1 : Vec Ideal S1x1x2048 .f32) (x2 : Vec Ideal S1x512x2048 .fp8e5m2) (x3 : Vec Ideal S1x16x2048 .f32) (j : S2880x512.Idx) : EReal :=
  ∑ k : Fin 2048, (x0 (ix3 0 (j 0) k) * x1 (ix3 0 0 k)) * (x2 (ix3 0 (j 1) k) * x3 (ix3 0 ⟨(j 1).val / 32, Nat.div_lt_of_lt_mul (j 1).isLt⟩ k))

/-- The cotangent block that the body rebuilds. -/
def rhs (x2 : Vec Ideal S1x512x2048 .fp8e5m2) (x3 : Vec Ideal S1x16x2048 .f32) (i : S512x2048.Idx) : EReal :=
  x2 (ix3 0 (i 0) (i 1)) * x3 (ix3 0 ⟨(i 0).val / 32, Nat.div_lt_of_lt_mul (i 0).isLt⟩ (i 1))

theorem pay_eq (acc : Vec Ideal S2880x512 .f32) (w : Vec Ideal S512x2048 .bf16) (x0 : Vec Ideal S1x2880x2048 .fp8e4m3) (x1 : Vec Ideal S1x1x2048 .f32) (x2 : Vec Ideal S1x512x2048 .fp8e5m2) (x3 : Vec Ideal S1x16x2048 .f32)
    (j : S2880x512.Idx) (a : EReal) (ha : acc j = a) (hw : ∀ y, w y = rhs x2 x3 y) :
    k0_pay25 (F := Ideal) (k0_pay3 (F := Ideal) x0 x1) acc w j = a + part x0 x1 x2 x3 j := by
  have h : k0_pay25 (F := Ideal) (k0_pay3 (F := Ideal) x0 x1) acc w j = acc j + ∑ k : Fin 2048, (x0 (ix3 0 (j 0) k) * x1 (ix3 0 0 k)) * w (ix2 (j 1) k) := by
    unfold k0_pay25 k0_pay3
    pointwise [dot_S2880x2048_S512x2048_S2880x512_1_1_0_0_n_n]
  rw [h, ha]
  unfold part
  refine congrArg (a + ·) (Finset.sum_congr rfl fun k _ => ?_)
  rw [hw]; rfl

theorem pay2_apply (j : S2880x512.Idx) : k0_pay2 (F := Ideal) j = 0 := by
  unfold k0_pay2
  pointwise

theorem pay1_apply (g : Vec Ideal S2880x1 .f32) (acc : Vec Ideal S2880x512 .f32) (j : S512x2880.Idx) :
    k0_pay1 (F := Ideal) g acc j = g (ix2 (j 1) 0) * acc (ix2 (j 1) (j 0)) := by
  unfold k0_pay1
  pointwise

/-- A row of a slab of 32 rows, read from the blocks. -/
theorem rhs_eq (x2 : Vec Ideal S1x512x2048 .fp8e5m2) (x3 : Vec Ideal S1x16x2048 .f32) (y : S512x2048.Idx) (d : Fin 512) (r : Fin 16) (k : Fin 2048)
    (hd : (y 0).val = d.val) (hr : (y 0).val / 32 = r.val) (hk : (y 1).val = k.val) :
    (x2 (ix3 0 d k) * x3 (ix3 0 r k) : EReal) = rhs x2 x3 y := by
  unfold rhs
  obtain rfl : y 0 = d := Fin.ext hd
  obtain rfl : y 1 = k := Fin.ext hk
  obtain rfl : (⟨(y 0).val / 32, Nat.div_lt_of_lt_mul (y 0).isLt⟩ : Fin 16) = r := Fin.ext hr
  rfl

set_option maxHeartbeats 4000000 in
/-- What case A leaves in the carried sum. -/
theorem acc_A (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : cond0_0 i) (hc1 : ¬cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (j : S2880x512.Idx) :
    VS0_0.read (Elt Ideal) (VS0_0.writes (Elt Ideal) VS0_0.junk (kernelRun0_A (F := Ideal) c i arg2 harg2 arg3 harg3 arg4 harg4 arg5 harg5 arg6 harg6 arg7 harg7 scM0_0 (Memref.isWhole_whole _) arg9 harg9 hc0 hc1 x0 x1 x2 x3 x4).2.1) j = 0 + part x0 x1 x2 x3 j := by
  frame_out
  refine pay_eq _ _ x0 x1 x2 x3 j _ (pay2_apply j) ?_
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact rhs_eq x2 x3 y _ _ _ h0 (by dsimp only; omega) h1

theorem cover_A (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : cond0_0 i) (hc1 : ¬cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (y : S2880x512.Idx) :
    ∃ pc ∈ (kernelRun0_A (F := Ideal) c i arg2 harg2 arg3 harg3 arg4 harg4 arg5 harg5 arg6 harg6 arg7 harg7 scM0_0 (Memref.isWhole_whole _) arg9 harg9 hc0 hc1 x0 x1 x2 x3 x4).2.1, y ∈ pc.1.set :=
  View.cover_of_tiledL (kernelRun0_A (F := Ideal) c i arg2 harg2 arg3 harg3 arg4 harg4 arg5 harg5 arg6 harg6 arg7 harg7 scM0_0 (Memref.isWhole_whole _) arg9 harg9 hc0 hc1 x0 x1 x2 x3 x4).2.1 S2880x512.size (by sl_kernel_rfl) y

set_option maxHeartbeats 4000000 in
/-- What case B leaves in the carried sum. -/
theorem acc_B (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : ¬cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (j : S2880x512.Idx) :
    VS0_0.read (Elt Ideal) (VS0_0.writes (Elt Ideal) VS0_0.junk (kernelRun0_B (F := Ideal) c i arg2 harg2 arg3 harg3 arg4 harg4 arg5 harg5 arg6 harg6 arg7 harg7 scM0_0 (Memref.isWhole_whole _) arg9 harg9 hc0 hc1 x0 x1 x2 x3 x4 xs).2.1) j = (show EReal from xs j) + part x0 x1 x2 x3 j := by
  frame_out
  refine pay_eq _ _ x0 x1 x2 x3 j _ (congrFun ((Memref.isWhole_whole cc0_scratch0).read_unread _) j) ?_
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact rhs_eq x2 x3 y _ _ _ h0 (by dsimp only; omega) h1

theorem cover_B (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : ¬cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (y : S2880x512.Idx) :
    ∃ pc ∈ (kernelRun0_B (F := Ideal) c i arg2 harg2 arg3 harg3 arg4 harg4 arg5 harg5 arg6 harg6 arg7 harg7 scM0_0 (Memref.isWhole_whole _) arg9 harg9 hc0 hc1 x0 x1 x2 x3 x4 xs).2.1, y ∈ pc.1.set :=
  View.cover_of_tiledL (kernelRun0_B (F := Ideal) c i arg2 harg2 arg3 harg3 arg4 harg4 arg5 harg5 arg6 harg6 arg7 harg7 scM0_0 (Memref.isWhole_whole _) arg9 harg9 hc0 hc1 x0 x1 x2 x3 x4 xs).2.1 S2880x512.size (by sl_kernel_rfl) y

set_option maxHeartbeats 4000000 in
/-- What case C leaves in the carried sum. -/
theorem acc_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (j : S2880x512.Idx) :
    VS0_0.read (Elt Ideal) (VS0_0.writes (Elt Ideal) VS0_0.junk (kernelRun0_C (F := Ideal) c i arg2 harg2 arg3 harg3 arg4 harg4 arg5 harg5 arg6 harg6 arg7 harg7 scM0_0 (Memref.isWhole_whole _) arg9 harg9 hc0 hc1 x0 x1 x2 x3 x4 xs).2.1) j = (show EReal from xs j) + part x0 x1 x2 x3 j := by
  frame_out
  refine pay_eq _ _ x0 x1 x2 x3 j _ (congrFun ((Memref.isWhole_whole cc0_scratch0).read_unread _) j) ?_
  intro y
  rw [View.readCov_eq_canon_ld _ _ _ (View.cover_of_tiled_head _ _ _ (by sl_kernel_rfl)), View.ld_unit_zero (by decide)]
  canon_tiles x h using View.cover_of_tiled_head _ _ _ (by sl_kernel_rfl) _
  all_goals
    open_payloads
    pointwise
    exact rhs_eq x2 x3 y _ _ _ h0 (by dsimp only; omega) h1

theorem cover_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (y : S2880x512.Idx) :
    ∃ pc ∈ (kernelRun0_C (F := Ideal) c i arg2 harg2 arg3 harg3 arg4 harg4 arg5 harg5 arg6 harg6 arg7 harg7 scM0_0 (Memref.isWhole_whole _) arg9 harg9 hc0 hc1 x0 x1 x2 x3 x4 xs).2.1, y ∈ pc.1.set :=
  View.cover_of_tiledL (kernelRun0_C (F := Ideal) c i arg2 harg2 arg3 harg3 arg4 harg4 arg5 harg5 arg6 harg6 arg7 harg7 scM0_0 (Memref.isWhole_whole _) arg9 harg9 hc0 hc1 x0 x1 x2 x3 x4 xs).2.1 S2880x512.size (by sl_kernel_rfl) y

theorem coverOut_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (y : S512x2880.Idx) :
    ∃ pc ∈ (kernelRun0_C (F := Ideal) c i arg2 harg2 arg3 harg3 arg4 harg4 arg5 harg5 arg6 harg6 arg7 harg7 scM0_0 (Memref.isWhole_whole _) arg9 harg9 hc0 hc1 x0 x1 x2 x3 x4 xs).1, y ∈ pc.1.set :=
  View.cover_of_tiledL (kernelRun0_C (F := Ideal) c i arg2 harg2 arg3 harg3 arg4 harg4 arg5 harg5 arg6 harg6 arg7 harg7 scM0_0 (Memref.isWhole_whole _) arg9 harg9 hc0 hc1 x0 x1 x2 x3 x4 xs).1 S512x2880.size (by sl_kernel_rfl) y

set_option maxHeartbeats 4000000 in
/-- What case C leaves in the result's buffer: gamma times the finished sum, transposed. -/
theorem out_C (c : Dev nD) (i : grid0.Coords) (arg2 : Memref sig .tc .vmem S1x2880x2048 .fp8e4m3) (harg2 : arg2.IsWhole) (arg3 : Memref sig .tc .vmem S1x1x2048 .f32) (harg3 : arg3.IsWhole) (arg4 : Memref sig .tc .vmem S1x512x2048 .fp8e5m2) (harg4 : arg4.IsWhole) (arg5 : Memref sig .tc .vmem S1x16x2048 .f32) (harg5 : arg5.IsWhole) (arg6 : Memref sig .tc .vmem S2880x1 .f32) (harg6 : arg6.IsWhole) (arg7 : Memref sig .tc .vmem S512x2880 .bf16) (harg7 : arg7.IsWhole) (arg9 : Memref sig .tc .vmem S512x2048 .bf16) (harg9 : arg9.IsWhole) (hc0 : ¬cond0_0 i) (hc1 : cond0_1 i)
    (x0 : Vec Ideal S1x2880x2048 .fp8e4m3) (x1 : Vec Ideal S1x1x2048 .f32) (x2 : Vec Ideal S1x512x2048 .fp8e5m2) (x3 : Vec Ideal S1x16x2048 .f32) (x4 : Vec Ideal S2880x1 .f32) (xs : Vec Ideal S2880x512 .f32) (j : S512x2880.Idx) :
    VO0_5.read (Elt Ideal) (VO0_5.writes (Elt Ideal) VO0_5.junk (kernelRun0_C (F := Ideal) c i arg2 harg2 arg3 harg3 arg4 harg4 arg5 harg5 arg6 harg6 arg7 harg7 scM0_0 (Memref.isWhole_whole _) arg9 harg9 hc0 hc1 x0 x1 x2 x3 x4 xs).1) j
      = (show EReal from x4 (ix2 (j 1) 0)) * (show EReal from VS0_0.read (Elt Ideal) (VS0_0.writes (Elt Ideal) VS0_0.junk (kernelRun0_C (F := Ideal) c i arg2 harg2 arg3 harg3 arg4 harg4 arg5 harg5 arg6 harg6 arg7 harg7 scM0_0 (Memref.isWhole_whole _) arg9 harg9 hc0 hc1 x0 x1 x2 x3 x4 xs).2.1) (ix2 (j 1) (j 0))) := by
  frame_out
  rw [pay1_apply]

end Cert.DwQkvIdeal.Gen
-- ==== Proof.DwQkv.Ideal.Value.lean ====
module

public import proofs.«01_k».proof.Proof.DwQkv.Ideal.Acc
public import Idealize.ShloMosaic.Lib.Pipeline.Value
public import Idealize.ShloMosaic.Lib.StableHlo.Run

@[expose] public section

set_option maxRecDepth 16384

noncomputable section

namespace Cert.DwQkvIdeal.Gen

open Idealize.ShloMosaic Idealize.ShloMosaic.TcCoe Idealize.SL.Sem

variable (m : (ℓ : Loc nD τ sig) → Buf (Elt Ideal) ℓ)

/-- One batch's part of the sum at row `n` of the cotangent and feature `d`: the activation code times its row scale,
    times the cotangent code times its block scale. -/
def batch (a0 : Vec Ideal S12x2048x3x18x160 .fp8e5m2) (a1 : Vec Ideal S12x2048x3x18x5 .f32) (a2 : Vec Ideal S12x2048x2880 .fp8e4m3) (a3 : Vec Ideal S12x2048 .f32) (b : Fin 12) (n : Fin 8640) (d : Fin 2880) : EReal :=
  ∑ k : Fin 2048, (a2 (ix3 b k d) * a3 (ix2 b k))
    * (a0 (ix5 b k ⟨n.val / 2880, by have := n.isLt; omega⟩ ⟨n.val / 160 % 18, by omega⟩ ⟨n.val % 160, by omega⟩)
      * a1 (ix5 b k ⟨n.val / 2880, by have := n.isLt; omega⟩ ⟨n.val / 160 % 18, by omega⟩ ⟨n.val / 32 % 5, by omega⟩))

/-- The gradient: gamma times the sum over all batches and rows. -/
def dwQkv (a0 : Vec Ideal S12x2048x3x18x160 .fp8e5m2) (a1 : Vec Ideal S12x2048x3x18x5 .f32) (a2 : Vec Ideal S12x2048x2880 .fp8e4m3) (a3 : Vec Ideal S12x2048 .f32) (a4 : Vec Ideal S2880 .f32) (i : S8640x2880.Idx) : EReal :=
  a4 (ix1 (i 1)) * ∑ b : Fin 12, batch a0 a1 a2 a3 b (i 0) (i 1)

/-- The same part at the launched arguments, for any two numbers (0 outside the array). -/
def tm (c : Dev nD) (s n : ℕ) (d : Fin 2880) : EReal :=
  if h : s < 12 ∧ n < 8640 then
    batch (m ((c : Thread nD τ).loc main_arg0)) (m ((c : Thread nD τ).loc main_arg1)) (m ((c : Thread nD τ).loc main_arg2)) (m ((c : Thread nD τ).loc main_arg3)) ⟨s, h.1⟩ ⟨n, h.2⟩ d
  else 0

/-! ## The arrays as the grid finds them -/

theorem V1 (c : Dev nD) : (V m c main_v1 : Vec Ideal S12x8640x2048 .fp8e5m2) = shapeCast S12x8640x2048 (transpose S12x3x18x160x2048 [0, 2, 3, 4, 1] (m ((c : Thread nD τ).loc main_arg0) : Vec Ideal S12x2048x3x18x160 .fp8e5m2) transposes_S12x2048x3x18x160_S12x3x18x160x2048_0_2_3_4_1) shapeCasts_S12x3x18x160x2048_S12x8640x2048 := by
  unfold V hostOps0
  after_results
  rfl
theorem V3 (c : Dev nD) : (V m c main_v3 : Vec Ideal S12x270x2048 .f32) = shapeCast S12x270x2048 (transpose S12x3x18x5x2048 [0, 2, 3, 4, 1] (m ((c : Thread nD τ).loc main_arg1) : Vec Ideal S12x2048x3x18x5 .f32) transposes_S12x2048x3x18x5_S12x3x18x5x2048_0_2_3_4_1) shapeCasts_S12x3x18x5x2048_S12x270x2048 := by
  unfold V hostOps0
  after_results
  rfl
theorem V4 (c : Dev nD) : (V m c main_v4 : Vec Ideal S12x2880x2048 .fp8e4m3) = transpose S12x2880x2048 [0, 2, 1] (m ((c : Thread nD τ).loc main_arg2) : Vec Ideal S12x2048x2880 .fp8e4m3) transposes_S12x2048x2880_S12x2880x2048_0_2_1 := by
  unfold V hostOps0
  after_results
theorem V5 (c : Dev nD) : (V m c main_v5 : Vec Ideal S12x1x2048 .f32) = shapeCast S12x1x2048 (m ((c : Thread nD τ).loc main_arg3) : Vec Ideal S12x2048 .f32) shapeCasts_S12x2048_S12x1x2048 := by
  unfold V hostOps0
  after_results
  rfl
theorem V6 (c : Dev nD) : (V m c main_v6 : Vec Ideal S2880x1 .f32) = shapeCast S2880x1 (m ((c : Thread nD τ).loc main_arg4) : Vec Ideal S2880 .f32) shapeCasts_S2880_S2880x1 := by
  unfold V hostOps0
  after_results
  rfl

/-! ## The blocks -/

theorem idx0 : ∀ t : Fin cfg0.N, win0_0.index t (0 : Fin 3) = t.val % 12 ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val % 12 ∧ win0_1.index t (1 : Fin 3) = 0 ∧ win0_1.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)

theorem blk0 (c : Dev nD) (t : Fin cfg0.N) (d : Fin 2880) (k : Fin 2048) (b : Fin 12) (hb : b.val = t.val % 12) :
    (iblk m c 0 t : Vec Ideal S1x2880x2048 .fp8e4m3) (ix3 0 d k) = (m ((c : Thread nD τ).loc main_arg2) : Vec Ideal S12x2048x2880 .fp8e4m3) (ix3 b k d) := by
  obtain ⟨e0, e1, e2⟩ := idx0 t
  have h : (iblk m c 0 t : Vec Ideal S1x2880x2048 .fp8e4m3) (ix3 0 d k) = (V m c main_v4 : Vec Ideal S12x2880x2048 .fp8e4m3) (ix3 b d k) := by
    blk_ext [iblk, e0, e1, e2, hb]
  rw [h, V4]
  pointwise

theorem blk1 (c : Dev nD) (t : Fin cfg0.N) (k : Fin 2048) (b : Fin 12) (hb : b.val = t.val % 12) :
    (iblk m c 1 t : Vec Ideal S1x1x2048 .f32) (ix3 0 0 k) = (m ((c : Thread nD τ).loc main_arg3) : Vec Ideal S12x2048 .f32) (ix2 b k) := by
  obtain ⟨e0, e1, e2⟩ := idx1 t
  have h : (iblk m c 1 t : Vec Ideal S1x1x2048 .f32) (ix3 0 0 k) = (V m c main_v5 : Vec Ideal S12x1x2048 .f32) (ix3 b 0 k) := by
    blk_ext [iblk, e0, e1, e2, hb]
  rw [h, V5]
  unfold shapeCast
  refine congrArg _ (Shape.reshapeEquiv_eq_of_rowMajor _ ?_)
  refine (Shape.rowMajor_val_two (d := ![12, 2048]) _).trans (Eq.trans ?_ (Shape.rowMajor_val_three (d := ![12, 1, 2048]) _).symm)
  show b.val * 2048 + k.val = (b.val * 1 + 0) * 2048 + k.val
  omega

theorem blk4 (c : Dev nD) (t : Fin cfg0.N) (d : Fin 2880) :
    (iblk m c 4 t : Vec Ideal S2880x1 .f32) (ix2 d 0) = (m ((c : Thread nD τ).loc main_arg4) : Vec Ideal S2880 .f32) (ix1 d) := by
  obtain ⟨e0, e1⟩ := idx4 t
  have h : (iblk m c 4 t : Vec Ideal S2880x1 .f32) (ix2 d 0) = (V m c main_v6 : Vec Ideal S2880x1 .f32) (ix2 d 0) := by
    blk_ext [iblk, e0, e1]
  rw [h, V6]
  pointwise

theorem idx2 : ∀ t : Fin cfg0.N, win0_2.index t (0 : Fin 3) = t.val % 12 ∧ win0_2.index t (1 : Fin 3) = t.val / 12 ∧ win0_2.index t (2 : Fin 3) = 0 :=
  (by decide +kernel : ∀ t : Fin grid0.N, _)

/-- The part of a block that lies inside the array. -/
theorem xs2 : ∀ t : Fin cfg0.N, win0_2.xsize (grid0.coords t) (0 : Fin 3) = 1 ∧ win0_2.xsize (grid0.coords t) (1 : Fin 3) = min 512 (8640 - 512 * (t.val / 12)) ∧ win0_2.xsize (grid0.coords t) (2 : Fin 3) = 2048 :=
  (by decide +kernel : ∀ t : Fin grid0.N, _)

/-- A staging buffer after a fetch, on a row inside the array. -/
theorem fill2 (c : Dev nD) (t : Fin cfg0.N) (r : Fin 512) (k : Fin 2048) (d : S1x512x2048.Idx → Elt Ideal .fp8e5m2) (b : Fin 12) (n : Fin 8640) (hb : b.val = t.val % 12) (hn : n.val = 512 * (t.val / 12) + r.val) :
    ((cfg0.win 2).fill (grid0.coords t) d (iblk m c 2 t) : Vec Ideal S1x512x2048 .fp8e5m2) (ix3 0 r k) = (V m c main_v1 : Vec Ideal S12x8640x2048 .fp8e5m2) (ix3 b n k) := by
  obtain ⟨e0, e1, e2⟩ := idx2 t
  obtain ⟨s0, s1, s2⟩ := xs2 t
  have hm : (cfg0.win 2).moved (grid0.coords t) (ix3 0 r k) = true := by
    rw [Pipeline.Window.moved_iff]
    intro a
    match a with
    | ⟨0, _⟩ => exact Nat.lt_of_lt_of_eq (show (0 : ℕ) < 1 by omega) s0.symm
    | ⟨1, _⟩ => exact Nat.lt_of_lt_of_eq (show r.val < _ by have := r.isLt; have := n.isLt; omega) s1.symm
    | ⟨2, _⟩ => exact Nat.lt_of_lt_of_eq k.isLt s2.symm
  unfold Pipeline.Window.fill
  rw [dif_pos hm]
  unfold iblk
  refine congrArg (V m c main_v1) ?_
  funext a; apply Fin.ext
  match a with
  | ⟨0, _⟩ => show win0_2.index t (0 : Fin 3) * 1 + 1 * 0 = b.val; omega
  | ⟨1, _⟩ => show win0_2.index t (1 : Fin 3) * 512 + 1 * r.val = n.val; omega
  | ⟨2, _⟩ => show win0_2.index t (2 : Fin 3) * 2048 + 1 * k.val = k.val; omega

theorem idx3 : ∀ t : Fin cfg0.N, win0_3.index t (0 : Fin 3) = t.val % 12 ∧ win0_3.index t (1 : Fin 3) = t.val / 12 ∧ win0_3.index t (2 : Fin 3) = 0 :=
  (by decide +kernel : ∀ t : Fin grid0.N, _)

/-- The part of a block that lies inside the array. -/
theorem xs3 : ∀ t : Fin cfg0.N, win0_3.xsize (grid0.coords t) (0 : Fin 3) = 1 ∧ win0_3.xsize (grid0.coords t) (1 : Fin 3) = min 16 (270 - 16 * (t.val / 12)) ∧ win0_3.xsize (grid0.coords t) (2 : Fin 3) = 2048 :=
  (by decide +kernel : ∀ t : Fin grid0.N, _)

/-- A staging buffer after a fetch, on a row inside the array. -/
theorem fill3 (c : Dev nD) (t : Fin cfg0.N) (r : Fin 16) (k : Fin 2048) (d : S1x16x2048.Idx → Elt Ideal .f32) (b : Fin 12) (n : Fin 270) (hb : b.val = t.val % 12) (hn : n.val = 16 * (t.val / 12) + r.val) :
    ((cfg0.win 3).fill (grid0.coords t) d (iblk m c 3 t) : Vec Ideal S1x16x2048 .f32) (ix3 0 r k) = (V m c main_v3 : Vec Ideal S12x270x2048 .f32) (ix3 b n k) := by
  obtain ⟨e0, e1, e2⟩ := idx3 t
  obtain ⟨s0, s1, s2⟩ := xs3 t
  have hm : (cfg0.win 3).moved (grid0.coords t) (ix3 0 r k) = true := by
    rw [Pipeline.Window.moved_iff]
    intro a
    match a with
    | ⟨0, _⟩ => exact Nat.lt_of_lt_of_eq (show (0 : ℕ) < 1 by omega) s0.symm
    | ⟨1, _⟩ => exact Nat.lt_of_lt_of_eq (show r.val < _ by have := r.isLt; have := n.isLt; omega) s1.symm
    | ⟨2, _⟩ => exact Nat.lt_of_lt_of_eq k.isLt s2.symm
  unfold Pipeline.Window.fill
  rw [dif_pos hm]
  unfold iblk
  refine congrArg (V m c main_v3) ?_
  funext a; apply Fin.ext
  match a with
  | ⟨0, _⟩ => show win0_3.index t (0 : Fin 3) * 1 + 1 * 0 = b.val; omega
  | ⟨1, _⟩ => show win0_3.index t (1 : Fin 3) * 16 + 1 * r.val = n.val; omega
  | ⟨2, _⟩ => show win0_3.index t (2 : Fin 3) * 2048 + 1 * k.val = k.val; omega

theorem arr1 (c : Dev nD) (b : Fin 12) (n : Fin 8640) (k : Fin 2048) :
    (V m c main_v1 : Vec Ideal S12x8640x2048 .fp8e5m2) (ix3 b n k) = (m ((c : Thread nD τ).loc main_arg0) : Vec Ideal S12x2048x3x18x160 .fp8e5m2) (ix5 b k ⟨n.val / 2880, by have := n.isLt; omega⟩ ⟨n.val / 160 % 18, by omega⟩ ⟨n.val % 160, by omega⟩) := by
  rw [V1]
  pointwise

theorem arr3 (c : Dev nD) (b : Fin 12) (n : Fin 270) (k : Fin 2048) :
    (V m c main_v3 : Vec Ideal S12x270x2048 .f32) (ix3 b n k) = (m ((c : Thread nD τ).loc main_arg1) : Vec Ideal S12x2048x3x18x5 .f32) (ix5 b k ⟨n.val / 90, by have := n.isLt; omega⟩ ⟨n.val / 5 % 18, by omega⟩ ⟨n.val % 5, by omega⟩) := by
  rw [V3]
  pointwise

/-- The part that a point adds, at a column inside the array. -/
theorem part_eq (c : Dev nD) (t : Fin cfg0.N) (d2 : S1x512x2048.Idx → Elt Ideal .fp8e5m2) (d3 : S1x16x2048.Idx → Elt Ideal .f32) (j : S2880x512.Idx) (hj : 512 * (t.val / 12) + (j 1).val < 8640) :
    part (iblk m c 0 t) (iblk m c 1 t) ((cfg0.win 2).fill (grid0.coords t) d2 (iblk m c 2 t)) ((cfg0.win 3).fill (grid0.coords t) d3 (iblk m c 3 t)) j
      = tm m c (t.val % 12) (512 * (t.val / 12) + (j 1).val) (j 0) := by
  have hb : t.val % 12 < 12 := Nat.mod_lt _ (by decide)
  have hr : (j 1).val < 512 := (j 1).isLt
  unfold tm part batch
  rw [dif_pos ⟨hb, hj⟩]
  refine Finset.sum_congr rfl fun k _ => ?_
  refine congrArg₂ (· * ·) (congrArg₂ (· * ·) (blk0 m c t _ _ ⟨_, hb⟩ rfl) (blk1 m c t _ ⟨_, hb⟩ rfl)) (congrArg₂ (· * ·) ?_ ?_)
  · exact (fill2 m c t _ k d2 ⟨_, hb⟩ ⟨_, hj⟩ rfl rfl).trans (arr1 m c _ _ _)
  · refine (fill3 m c t _ k d3 ⟨_, hb⟩ ⟨(512 * (t.val / 12) + (j 1).val) / 32, by omega⟩ rfl (by dsimp only; omega)).trans ((arr3 m c _ _ _).trans ?_)
    refine congrArg (m ((c : Thread nD τ).loc main_arg1) : Vec Ideal S12x2048x3x18x5 .f32) ?_
    funext a; apply Fin.ext
    match a with
    | ⟨0, _⟩ => rfl
    | ⟨1, _⟩ => rfl
    | ⟨2, _⟩ => show (512 * (t.val / 12) + (j 1).val) / 32 / 90 = (512 * (t.val / 12) + (j 1).val) / 2880; omega
    | ⟨3, _⟩ => show (512 * (t.val / 12) + (j 1).val) / 32 / 5 % 18 = (512 * (t.val / 12) + (j 1).val) / 160 % 18; omega
    | ⟨4, _⟩ => show (512 * (t.val / 12) + (j 1).val) / 32 % 5 = (512 * (t.val / 12) + (j 1).val) / 32 % 5; rfl

/-! ## What the carried sum holds -/

/-- After point `t`, at every column inside the array: the parts of the batches so far. -/
def Inv (c : Dev nD) (t : ℕ) (X : Vec Ideal S2880x512 .f32) : Prop :=
  ∀ j : S2880x512.Idx, 512 * (t / 12) + (j 1).val < 8640 →
    (show EReal from X j) = ∑ s ∈ Finset.range (t % 12 + 1), tm m c s (512 * (t / 12) + (j 1).val) (j 0)

theorem inv_A (c : Dev nD) (t : Fin cfg0.N) (h : t.val % 12 = 0) (d2 : S1x512x2048.Idx → Elt Ideal .fp8e5m2) (d3 : S1x16x2048.Idx → Elt Ideal .f32) (X : Vec Ideal S2880x512 .f32)
    (hX : ∀ j, X j = 0 + part (iblk m c 0 t) (iblk m c 1 t) ((cfg0.win 2).fill (grid0.coords t) d2 (iblk m c 2 t)) ((cfg0.win 3).fill (grid0.coords t) d3 (iblk m c 3 t)) j) :
    Inv m c t.val X := by
  intro j hj
  refine (hX j).trans ?_
  rw [part_eq m c t d2 d3 j hj, h, zero_add, zero_add]
  exact (Finset.sum_range_one (fun s => tm m c s (512 * (t.val / 12) + (j 1).val) (j 0))).symm

theorem inv_B (c : Dev nD) (t : Fin cfg0.N) (h : ¬t.val % 12 = 0) (d2 : S1x512x2048.Idx → Elt Ideal .fp8e5m2) (d3 : S1x16x2048.Idx → Elt Ideal .f32) (X Y : Vec Ideal S2880x512 .f32)
    (hY : Inv m c (t.val - 1) Y)
    (hX : ∀ j, X j = (show EReal from Y j) + part (iblk m c 0 t) (iblk m c 1 t) ((cfg0.win 2).fill (grid0.coords t) d2 (iblk m c 2 t)) ((cfg0.win 3).fill (grid0.coords t) d3 (iblk m c 3 t)) j) :
    Inv m c t.val X := by
  intro j hj
  have e1 : (t.val - 1) / 12 = t.val / 12 := by omega
  have e2 : (t.val - 1) % 12 + 1 = t.val % 12 := by omega
  have hy := hY j (by rw [e1]; exact hj)
  rw [e1, e2] at hy
  refine (hX j).trans ?_
  rw [part_eq m c t d2 d3 j hj, Finset.sum_range_succ]
  exact congrArg (· + _) hy

/-- What the last batch of a block of columns leaves in the result's buffer. -/
def res (c : Dev nD) (t : ℕ) (i : S512x2880.Idx) : EReal :=
  (show EReal from (m ((c : Thread nD τ).loc main_arg4) : Vec Ideal S2880 .f32) (ix1 (i 1))) * ∑ s ∈ Finset.range 12, tm m c s (512 * (t / 12) + (i 0).val) (i 1)

theorem res_C (c : Dev nD) (t : Fin cfg0.N) (h : t.val % 12 = 11) (X : Vec Ideal S2880x512 .f32) (hX : Inv m c t.val X) (i : S512x2880.Idx) (hi : 512 * (t.val / 12) + (i 0).val < 8640) :
    (show EReal from (iblk m c 4 t : Vec Ideal S2880x1 .f32) (ix2 (i 1) 0)) * (show EReal from X (ix2 (i 1) (i 0))) = res m c t.val i := by
  have hx := hX (ix2 (i 1) (i 0)) hi
  rw [h] at hx
  exact congrArg₂ (· * ·) (blk4 m c t (i 1)) hx

/-- The result array. -/
def G (c : Dev nD) : Buf (Elt Ideal) ((c : Thread nD τ).loc main_v7) := fun i : S8640x2880.Idx =>
  dwQkv (m ((c : Thread nD τ).loc main_arg0)) (m ((c : Thread nD τ).loc main_arg1)) (m ((c : Thread nD τ).loc main_arg2)) (m ((c : Thread nD τ).loc main_arg3)) (m ((c : Thread nD τ).loc main_arg4)) i

theorem res_eq (c : Dev nD) (t : ℕ) (y : S512x2880.Idx) (i : S8640x2880.Idx) (h0 : (i 0).val = 512 * (t / 12) + (y 0).val) (h1 : i 1 = y 1) :
    res m c t y = (G m c : Vec Ideal S8640x2880 .bf16) i := by
  unfold res G dwQkv
  rw [Finset.sum_range, h1]
  refine congrArg (_ * ·) (Finset.sum_congr rfl fun b _ => ?_)
  unfold tm
  rw [dif_pos ⟨b.isLt, by rw [← h0]; exact (i 0).isLt⟩]
  refine congrArg (fun n => batch _ _ _ _ b n (y 1)) (Fin.ext h0.symm)

end Cert.DwQkvIdeal.Gen
-- ==== Proof.DwQkv.Ideal.Body.lean ====
module

public import proofs.«01_k».proof.Proof.DwQkv.Ideal.Value

@[expose] public section

set_option maxRecDepth 16384

noncomputable section

namespace Cert.DwQkvIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Between the points: the carried sum holds the parts of the batches so far (at the columns inside the array), and the
    other scratch buffer anything. -/
def PhiP (c : Dev nD) (t : ℕ) : sProp 𝕄 :=
  iprop(iprop((∃ X, ⌜Inv m c t X⌝ ∗ owns (c : Thread nD τ) scM0_0 fullShare X) ∗ (∃ d, owns (c : Thread nD τ) scM0_1 fullShare d)) ∗ (∃ r, prngReg c r))

/-- The same by position: before the first point both scratch buffers hold anything. -/
def PhiS (c : Dev nD) : ℕ → sProp 𝕄
  | 0 => Pipeline.ΦA spec0 c
  | n + 1 => PhiP m c n

/-- The proof data: each input's buffer holds its block, the result's buffer after the last batch of a block of columns the
    finished rows. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (grid0.coords t) (fun _ => (0 : EReal)) (iblk m c 2 t)
    | ⟨3, _⟩ => (cfg0.win 3).fill (grid0.coords t) (fun _ => (0 : EReal)) (iblk m c 3 t)
    | ⟨4, _⟩ => iblk m c 4 t
    | ⟨5, _⟩ => res m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (cfg0.win 2).fill (grid0.coords t) (fun _ => (0 : EReal)) (iblk m c 2 t) := by dsimp only [dats]
theorem after0_3 (c : Dev nD) (t : Fin cfg0.N) : (dats m 0 c).after 3 t = (cfg0.win 3).fill (grid0.coords t) (fun _ => (0 : EReal)) (iblk m c 3 t) := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = res m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_4 (c : Dev nD) (t : Fin cfg0.N) (d) : (dats m 0 c).before 4 t d = iblk m c 4 t :=
  before0_4_of m (dats m 0 c) (A_eq m c 4) (after0_4 m c) t d
/-- A buffer whose block overhangs the array: the block's part inside the array, the rest as it was. -/
theorem before0_2 (c : Dev nD) (t : Fin cfg0.N) (d) : (dats m 0 c).before 2 t d = (cfg0.win 2).fill (grid0.coords t) d (iblk m c 2 t) := by
  unfold Dat.before; rw [if_pos (fetch0_2 t)]; unfold Dat.fetched Dat.blockOf iblk; rw [A_eq]
theorem before0_3 (c : Dev nD) (t : Fin cfg0.N) (d) : (dats m 0 c).before 3 t d = (cfg0.win 3).fill (grid0.coords t) d (iblk m c 3 t) := by
  unfold Dat.before; rw [if_pos (fetch0_3 t)]; unfold Dat.fetched Dat.blockOf iblk; rw [A_eq]

theorem PhiS_castSucc (c : Dev nD) (t : Fin cfg0.N) : (dats m 0 c).Φ t.castSucc = PhiS m c t.val := by
  dsimp only [dats]; rfl
theorem PhiS_succ (c : Dev nD) (t : Fin cfg0.N) : (dats m 0 c).Φ t.succ = PhiP m c t.val := by
  dsimp only [dats]; rfl
theorem PhiS_pos (c : Dev nD) (n : ℕ) (h : n ≠ 0) : PhiS m c n = PhiP m c (n - 1) := by
  cases n with
  | zero => exact absurd rfl h
  | succ n => rfl

/-- Between the points the carried sum may be forgotten. -/
theorem PhiS_any (c : Dev nD) (n : ℕ) : PhiS m c n ⊢ iprop(iprop((∃ d, owns (c : Thread nD τ) scM0_0 fullShare d) ∗ (∃ d, owns (c : Thread nD τ) scM0_1 fullShare d)) ∗ (∃ r, prngReg c r)) := by
  cases n with
  | zero => exact (show PhiS m c 0 = _ from PhiA0_eq c) ▸ .rfl
  | succ n =>
    show PhiP m c n ⊢ _
    unfold PhiP
    iintro ⟨⟨⟨%X, -, HS0⟩, HS1⟩, Hg⟩
    isplitl [HS0 HS1]
    · isplitl [HS0]
      · iexists _; iexact HS0
      iexact HS1
    iexact Hg

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns: of a buffer whose block overhangs the array, the part inside it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (grid0.coords t) d ((cfg0.win 2).cut (grid0.coords t) ((dats m 0 c).after 2 t))))
    ∗ (∃ d, owns (c : Thread nD τ) (ms0_3 t) fullShare ((cfg0.win 3).fill (grid0.coords t) d ((cfg0.win 3).cut (grid0.coords t) ((dats m 0 c).after 3 t))))
    ∗ owns (c : Thread nD τ) (ms0_4 t) fullShare ((dats m 0 c).after 4 t)
    ∗ (dats m 0 c).leaves 5 t)

theorem xs5 : ∀ t : Fin cfg0.N, win0_5.xsize (grid0.coords t) (0 : Fin 2) = min 512 (8640 - 512 * (t.val / 12)) ∧ win0_5.xsize (grid0.coords t) (1 : Fin 2) = 2880 :=
  (by decide +kernel : ∀ t : Fin grid0.N, _)

/-- The result's buffer on the part that is written back. -/
theorem leaves_C (c : Dev nD) (t : Fin cfg0.N) (hl : cfg0.idle 5 (grid0.coords t) = false) (X : S512x2880.Idx → Elt Ideal .bf16)
    (hX : ∀ i : S512x2880.Idx, 512 * (t.val / 12) + (i 0).val < 8640 → (show EReal from X i) = res m c t.val i) :
    owns (c : Thread nD τ) (ms0_5 t) fullShare X ⊢ ((dats m 0 c).leaves 5 t : sProp 𝕄) := by
  have h : (dats m 0 c).leaves 5 t = iprop(∃ d, owns (c : Thread nD τ) (ms0_5 t) fullShare ((cfg0.win 5).fill (grid0.coords t) d ((cfg0.win 5).cut (grid0.coords t) ((dats m 0 c).after 5 t)))) := by
    unfold Dat.leaves; rw [hl]; rfl
  rw [h]
  have hc : (cfg0.win 5).cut (grid0.coords t) X = (cfg0.win 5).cut (grid0.coords t) ((dats m 0 c).after 5 t) := by
    rw [after0_5]
    funext y
    obtain ⟨s0, s1⟩ := xs5 t
    have hy : (y 0).val < win0_5.xsize (grid0.coords t) (0 : Fin 2) := (y 0).isLt
    refine hX _ ?_
    show 512 * (t.val / 12) + (y 0).val < 8640
    omega
  iintro H; iexists X
  rw [(cfg0.win 5).fill_congr_cut (grid0.coords t) hc]
  iexact H

set_option maxHeartbeats 4800000 in
/-- The body at any point, by the run of the case the point is in. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl, PhiS_succ, PhiS_castSucc,
    after0_0, after0_1, after0_2, after0_3, after0_4, Pipeline.Window.cut_fill, Pipeline.Window.cut_fill]
  have hN : t.val < 204 := lt_of_lt_of_eq t.isLt (show cfg0.N = 204 from N_0)
  by_cases h0 : t.val % 12 = 0
  · have h1 : ¬t.val % 12 = 11 := by omega
    refine (sep_mono (PhiS_any m c t.val) .rfl).trans ?_
    unfold PhiP
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    have hinv := inv_A m c t h0 d2 d3 _ (fun j => acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) ((hcond0_0 t).mpr h0) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t) j)
    iapply ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t)).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%fT1, HS1⟩⟩
    isplitl [HS0 HS1 Hg]
    · isplitl [HS0 HS1]
      · isplitl [HS0]
        · iexists _; isplitr; · ipureintro; exact hinv
          unfold owns; iexists _; isplitr
          swap; · iexact HS0
          ipureintro; exact View.read_writes_of_cover _ _ _ _ _ (cover_A c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) ((hcond0_0 t).mpr h0) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t))
        iexists _; unfold owns; iexists _; isplitr
        swap; · iexact HS1
        ipureintro; rfl
      iexact Hg
    isplitl [Ho]; · iexact Ho
    isplitl [H0]; · iexact H0
    isplitl [H1]; · iexact H1
    isplitl [H2]; · iexists d2; iexact H2
    isplitl [H3]; · iexists d3; iexact H3
    isplitl [H4]; · iexact H4
    rw [Dat.leaves_idle (dats m 0 c) 5 t (idleAt0_5_A t ((hcond0_0 t).mpr h0) (fun h => h1 ((hcond0_1 t).mp h))) (noFlush0_5_A t ((hcond0_0 t).mpr h0) (fun h => h1 ((hcond0_1 t).mp h)))]
    iexists _; iexact H5
  · by_cases h1 : t.val % 12 = 11
    · rw [PhiS_pos m c _ (by omega)]; unfold PhiP
      iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩⟩
      have hinv := inv_B m c t h0 d2 d3 _ xs0 hxs (fun j => acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) ((hcond0_1 t).mpr h1) (iblk m c 0 t) (iblk m c 1 t) ((cfg0.win 2).fill (grid0.coords t) d2 (iblk m c 2 t)) ((cfg0.win 3).fill (grid0.coords t) d3 (iblk m c 3 t)) (iblk m c 4 t) xs0 j)
      have hout := fun (i : S512x2880.Idx) hi => (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) ((hcond0_1 t).mpr h1) (iblk m c 0 t) (iblk m c 1 t) ((cfg0.win 2).fill (grid0.coords t) d2 (iblk m c 2 t)) ((cfg0.win 3).fill (grid0.coords t) d3 (iblk m c 3 t)) (iblk m c 4 t) xs0 i).trans (res_C m c t h1 _ hinv i hi)
      iapply ((kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) ((cfg0.win 2).fill (grid0.coords t) d2 (iblk m c 2 t)) ((cfg0.win 3).fill (grid0.coords t) d3 (iblk m c 3 t)) (iblk m c 4 t) xs0).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%fT1, HS1⟩⟩
      isplitl [HS0 HS1 Hg]
      · isplitl [HS0 HS1]
        · isplitl [HS0]
          · iexists _; isplitr; · ipureintro; exact hinv
            unfold owns; iexists _; isplitr
            swap; · iexact HS0
            ipureintro; exact View.read_writes_of_cover _ _ _ _ _ (cover_C c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) ((hcond0_1 t).mpr h1) (iblk m c 0 t) (iblk m c 1 t) ((cfg0.win 2).fill (grid0.coords t) d2 (iblk m c 2 t)) ((cfg0.win 3).fill (grid0.coords t) d3 (iblk m c 3 t)) (iblk m c 4 t) xs0)
          iexists _; unfold owns; iexists _; isplitr
          swap; · iexact HS1
          ipureintro; rfl
        iexact Hg
      isplitl [Ho]; · iexact Ho
      isplitl [H0]; · iexact H0
      isplitl [H1]; · iexact H1
      isplitl [H2]; · iexists d2; iexact H2
      isplitl [H3]; · iexists d3; iexact H3
      isplitl [H4]; · iexact H4
      iapply (leaves_C m c t (liveAt0_5_C t (fun h => h0 ((hcond0_0 t).mp h)) ((hcond0_1 t).mpr h1)) _ hout)
      unfold owns; iexists _; isplitr
      swap; · iexact H5
      ipureintro; exact View.read_writes_of_cover _ _ _ _ _ (coverOut_C c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) ((hcond0_1 t).mpr h1) (iblk m c 0 t) (iblk m c 1 t) ((cfg0.win 2).fill (grid0.coords t) d2 (iblk m c 2 t)) ((cfg0.win 3).fill (grid0.coords t) d3 (iblk m c 3 t)) (iblk m c 4 t) xs0)
    · rw [PhiS_pos m c _ (by omega)]; unfold PhiP
      iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩⟩
      have hinv := inv_B m c t h0 d2 d3 _ xs0 hxs (fun j => acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t) xs0 j)
      iapply ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t) xs0).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%fT1, HS1⟩⟩
      isplitl [HS0 HS1 Hg]
      · isplitl [HS0 HS1]
        · isplitl [HS0]
          · iexists _; isplitr; · ipureintro; exact hinv
            unfold owns; iexists _; isplitr
            swap; · iexact HS0
            ipureintro; exact View.read_writes_of_cover _ _ _ _ _ (cover_B c (grid0.coords t) (ms0_0 t) (hs0_0 t) (ms0_1 t) (hs0_1 t) (ms0_2 t) (hs0_2 t) (ms0_3 t) (hs0_3 t) (ms0_4 t) (hs0_4 t) (ms0_5 t) (hs0_5 t) scM0_1 (Memref.isWhole_whole _) (fun h => h0 ((hcond0_0 t).mp h)) (fun h => h1 ((hcond0_1 t).mp h)) (iblk m c 0 t) (iblk m c 1 t) ((cfg0.win 2).fill (grid0.coords t) d2 (iblk m c 2 t)) ((cfg0.win 3).fill (grid0.coords t) d3 (iblk m c 3 t)) (iblk m c 4 t) xs0)
          iexists _; unfold owns; iexists _; isplitr
          swap; · iexact HS1
          ipureintro; rfl
        iexact Hg
      isplitl [Ho]; · iexact Ho
      isplitl [H0]; · iexact H0
      isplitl [H1]; · iexact H1
      isplitl [H2]; · iexists d2; iexact H2
      isplitl [H3]; · iexists d3; iexact H3
      isplitl [H4]; · iexact H4
      rw [Dat.leaves_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      iexists _; iexact H5

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  exact PhiS_any m c _

set_option backward.isDefEq.respectTransparency.types false in
/-- The run, and every counter at zero at its end. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hin := hin m) (hout := hout m)

/-! ## The result array -/

theorem idx5 : ∀ t : Fin cfg0.N, win0_5.index t (0 : Fin 2) = t.val / 12 ∧ win0_5.index t (1 : Fin 2) = 0 :=
  (by decide +kernel : ∀ t : Fin grid0.N, _)

/-- What a point writes back is its block of the result. -/
theorem flushed5_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  obtain ⟨e0, e1⟩ := idx5 t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 2880 + 1 * (y 1).val := rfl
  refine res_eq m c t.val _ (((cfg0.win 5).blk t).view.emb y) ?_ (Fin.ext ?_)
  · show _ = 512 * (t.val / 12) + (y 0).val
    rw [hb0, e0]; omega
  · show _ = (y 1).val
    rw [hb1, e1]; omega

theorem mem_blk5 (t : Fin cfg0.N) (i : S8640x2880.Idx) :
    i ∈ ((cfg0.win 5).blk t).view.set ↔ ∀ a : Fin 2, win0_5.index t a * S512x2880.size a ≤ (i a).val ∧ (i a).val < win0_5.index t a * S512x2880.size a + win0_5.xsize (grid0.coords t) a := by
  show i ∈ ((View.whole main_v7).slice (win0_5.rect t)).set ↔ _
  rw [View.set_slice_whole, Rect.mem_set_unit]
  exact Iff.rfl

/-- Every element of the result is written back by some point. -/
theorem covered5 (i : S8640x2880.Idx) : ∃ t : Fin cfg0.N, (cfg0.win 5).flush t = true ∧ i ∈ ((cfg0.win 5).blk t).view.set := by
  have h0 : (i 0).val < 8640 := (i 0).isLt
  have h1 : (i 1).val < 2880 := (i 1).isLt
  have hN : cfg0.N = 204 := N_0
  let t : Fin cfg0.N := ⟨12 * ((i 0).val / 512) + 11, by omega⟩
  have ht : t.val = 12 * ((i 0).val / 512) + 11 := rfl
  refine ⟨t, (flush0_5 t).mpr (by omega), ?_⟩
  obtain ⟨e0, e1⟩ := idx5 t
  obtain ⟨s0, s1⟩ := xs5 t
  rw [mem_blk5]
  intro a
  match a with
  | ⟨0, _⟩ => show win0_5.index t (0 : Fin 2) * 512 ≤ (i 0).val ∧ (i 0).val < win0_5.index t (0 : Fin 2) * 512 + win0_5.xsize (grid0.coords t) (0 : Fin 2); omega
  | ⟨1, _⟩ => show win0_5.index t (1 : Fin 2) * 2880 ≤ (i 1).val ∧ (i 1).val < win0_5.index t (1 : Fin 2) * 2880 + win0_5.xsize (grid0.coords t) (1 : Fin 2); omega

theorem final5 (c : Dev nD) : (dats m 0 c).arrAt 5 cfg0.N = G m c :=
  (dats m 0 c).arrAt_eq_of_cover 5 _ (fun t _ => flushed5_eq m c t) covered5

/-- The run ends with the result at `G`, the arguments unchanged and every counter at zero. -/
theorem run : θ_run defs (onTc (τ := τ) (main (F := Ideal))) ⟨m, fun _ => 0, ρ⟩ fun r => (∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun _ h => ⟨fun c => ⟨((h.1 c).1 5).trans (final5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.DwQkvIdeal.Gen
-- ==== Proof.DwQkv.Ref.lean ====
module

public import proofs.«01_k».proof.Proof.Gen.DwQkvRefIdeal.Value
public import Idealize.ShloMosaic.Lib.Pipeline.ValueKit
public import Idealize.ShloMosaic.Lib.Pointwise

@[expose] public section

noncomputable section

namespace Cert.DwQkvRefIdeal.Sum

open Cert.DwQkvRefIdeal Cert.DwQkvRefIdeal.Gen Idealize.ShloMosaic Idealize.ShloMosaic.TcCoe Idealize.SL.Sem

/-- The reference at an index: gamma times one sum over all rows, split into batches and rows of a batch. -/
theorem pay1_apply (a0 : Vec Ideal S12x2048x3x18x160 .fp8e5m2) (a1 : Vec Ideal S12x2048x3x18x5 .f32) (a2 : Vec Ideal S12x2048x2880 .fp8e4m3) (a3 : Vec Ideal S12x2048 .f32) (a4 : Vec Ideal S2880 .f32) (i : S8640x2880.Idx) :
    k0_pay1 (F := Ideal) a0 a1 a2 a3 a4 i = a4 (ix1 (i 1)) * ∑ b : Fin 12, ∑ k : Fin 2048, (a2 (ix3 b k (i 1)) * a3 (ix2 b k))
    * (a0 (ix5 b k ⟨(i 0).val / 2880, by have : (i 0).val < 8640 := (i 0).isLt; omega⟩ ⟨(i 0).val / 160 % 18, by omega⟩ ⟨(i 0).val % 160, by omega⟩)
      * a1 (ix5 b k ⟨(i 0).val / 2880, by have : (i 0).val < 8640 := (i 0).isLt; omega⟩ ⟨(i 0).val / 160 % 18, by omega⟩ ⟨(i 0).val / 32 % 5, by omega⟩)) := by
  unfold k0_pay1
  pointwise [dot_S24576x2880_S24576x8640_S2880x8640_0_0_1_1_n_n]
  refine congrArg (_ * ·) (Fin.sum_divmod_congr fun b k _ => congrArg₂ (· * ·) rfl (congrArg₂ (· * ·) (congrArg a0 ?_) rfl))
  refine congrArg (ix5 _ _ _ _) (Fin.ext ?_)
  show (i 0).val / 32 % 5 * 32 + (i 0).val % 32 = (i 0).val % 160
  omega

end Cert.DwQkvRefIdeal.Sum
-- ==== Proof.DwQkv.Claim.lean ====
module

public import proofs.«01_k».proof.Defs
public import proofs.«01_k».proof.Proof.DwQkv.Bits.Frame
public import proofs.«01_k».proof.Proof.DwQkv.Ideal.Body
public import proofs.«01_k».proof.Proof.DwQkv.Ref

@[expose] public section

noncomputable section

namespace Cert.Proof

open Idealize.ShloMosaic Idealize.ShloMosaic.TcCoe Idealize.SL.Sem

/-- `dw_qkv` at the exact numbers runs and changes no argument. -/
theorem quiescent_DwQkv : Cert.quiescent_DwQkvIdeal (hDwQkvIdeal := Cert.DwQkvIdeal.Gen.facts) :=
  fun m g _ => (θ_run _ _ _).mono (fun _ h => ⟨fun c => (h.1 c).2, h.2⟩) (Cert.DwQkvIdeal.Gen.run m g)

/-- `dw_qkv`: gamma times the blockwise sum over the batches is gamma times the one product of the reference. -/
theorem algebraic_DwQkv : Cert.algebraic_DwQkvIdeal_DwQkvRefIdeal (hDwQkvIdeal := Cert.DwQkvIdeal.Gen.facts) (hDwQkvRefIdeal := Cert.DwQkvRefIdeal.Gen.facts) := by
  intro m g m' g' _ hag
  refine ⟨fun c => Cert.DwQkvIdeal.Gen.G m c, (θ_run _ _ _).mono (fun r h => h.1) (Cert.DwQkvIdeal.Gen.run m g), (θ_run _ _ _).mono (fun r h c => ?_) (Cert.DwQkvRefIdeal.Value.run m' g')⟩
  obtain ⟨hv, hk⟩ := h c
  refine ⟨hv.trans ?_, hk⟩
  obtain ⟨e0, e1, e2, e3, e4⟩ := hag c
  rw [e0, e1, e2, e3, e4]
  funext i
  exact Cert.DwQkvRefIdeal.Sum.pay1_apply _ _ _ _ _ i

end Cert.Proof
-- ==== Proof.Dx.Bits.Cases.lean ====
/- The branch conditions of the body in closed form over the grid points, where the output windows are idle, and the
   staging and scratch buffers under short names. -/
module

public import proofs.«01_k».proof.Proof.Gen.Dx.Frame
public import proofs.«01_k».proof.Proof.Gen.Dx.Skeleton
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The body's condition 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_0 : ∀ t : Fin cfg0.N, cond0_0 (grid0.coords t) ↔ t.val % 9 = 0 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The body's condition 1, from the grid coordinates. -/
abbrev cond0_1 (i : grid0.Coords) : Prop := (Scalar.cmpi .ne (Scalar.extui (Scalar.cmpi .slt (BitVec.ofNat 32 (i 1).val) 4#32)) 0#32) = 1#1
/-- It holds at the points whose coordinates have i1 ≤ 3 — decided over the grid. -/
theorem hcond0_1 : ∀ t : Fin cfg0.N, cond0_1 (grid0.coords t) ↔ t.val % 9 ≤ 3 :=
  (by decide +kernel : ∀ t : Fin grid0.N, cond0_1 (grid0.coords t) ↔ t.val % 9 ≤ 3)

/-- The body's condition 2, from the grid coordinates. -/
abbrev cond0_2 (i : grid0.Coords) : Prop := (Scalar.cmpi .ne (Scalar.extui (Scalar.andi (Scalar.cmpi .sge (BitVec.ofNat 32 (i 1).val) 4#32) (Scalar.cmpi .slt (BitVec.ofNat 32 (i 1).val) 8#32))) 0#32) = 1#1
/-- It holds at the points whose coordinates have 4 ≤ i1 and i1 ≤ 7 — decided over the grid. -/
theorem hcond0_2 : ∀ t : Fin cfg0.N, cond0_2 (grid0.coords t) ↔ (4 ≤ t.val % 9 ∧ t.val % 9 ≤ 7) :=
  (by decide +kernel : ∀ t : Fin grid0.N, cond0_2 (grid0.coords t) ↔ (4 ≤ t.val % 9 ∧ t.val % 9 ≤ 7))

/-- The body's condition 3, from the grid coordinates. -/
abbrev cond0_3 (i : grid0.Coords) : Prop := k0_cond4 i = 1#1
/-- It holds at the points ≡ 8 (mod 9) — by arithmetic of the point. -/
theorem hcond0_3 : ∀ t : Fin cfg0.N, cond0_3 (grid0.coords t) ↔ t.val % 9 = 8 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_3, k0_cond4, e0, e1]
    word_cmp
   : ∀ t : Fin grid0.N, cond0_3 (grid0.coords t) ↔ t.val % 9 = 8)

/-- The body's condition 4, from the grid coordinates. -/
abbrev cond0_4 (i : grid0.Coords) : Prop := k0_cond5 i = 1#1
/-- It holds at the points before point 9 — by arithmetic of the point. -/
theorem hcond0_4 : ∀ t : Fin cfg0.N, cond0_4 (grid0.coords t) ↔ t.val < 9 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_4, k0_cond5, e0, e1]
    word_cmp
   : ∀ t : Fin grid0.N, cond0_4 (grid0.coords t) ↔ t.val < 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, written as in `bodyAt0`, and its wholeness. -/
abbrev ms0_0 (t : Fin cfg0.N) : Memref sig .tc .vmem S2880x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1920 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1920x512 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x90x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2880x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2880x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2880x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2880x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2880x512 .f32 := Memref.whole cc0_scratch0
abbrev scM0_1 : Memref sig .tc .vmem S1920x512 .bf16 := Memref.whole cc0_scratch1
/-- The scratch `arg14` the kernel carries between points, as a view: what it holds is stated through it. -/
abbrev VS0_0 : View sig .tc .vmem S2880x512 .f32 := scM0_0.view

/-- The invariant of the frame with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Dx.Gen

end
-- ==== Proof.Dx.Bits.RunA.lean ====
/- The run of the whole body in case A of its conditionals. -/
module

public import proofs.«01_k».proof.Proof.Dx.Bits.Cases

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_A (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : cond0_0 i) (hc1 : cond0_1 i) (hc2 : ¬cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) :
    Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], fun E K => ?run⟩
  case run =>
    simp only [cc0_dx_ln_eq_skeleton]; unfold cc0_dx_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _, _; isplitr; swap; · iexact HS1
    ipureintro; rfl

end Cert.Dx.Gen

end
-- ==== Proof.Dx.Bits.RunB.lean ====
/- The run of the whole body in case B of its conditionals. -/
module

public import proofs.«01_k».proof.Proof.Dx.Bits.RunA

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_B (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : cond0_1 i) (hc2 : ¬cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, [], fun E K => ?run⟩
  case run =>
    simp only [cc0_dx_ln_eq_skeleton]; unfold cc0_dx_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _, _; isplitr; swap; · iexact HS1
    ipureintro; rfl

end Cert.Dx.Gen

end
-- ==== Proof.Dx.Bits.RunC.lean ====
/- The run of the whole body in case C of its conditionals. -/
module

public import proofs.«01_k».proof.Proof.Dx.Bits.RunB

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1492000 in
/-- What the body's stores leave in each buffer it writes in this case, as pieces (last first), with the proof that the body,
    run on whole buffers, ends with the inputs as they were and each written buffer at its pieces. -/
noncomputable def kernelRun0_C (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_dx_ln_eq_skeleton]; unfold cc0_dx_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _; iexact HS1

end Cert.Dx.Gen

end
-- ==== Proof.Dx.Bits.RunD.lean ====
/- The run of the whole body in case D of its conditionals. -/
module

public import proofs.«01_k».proof.Proof.Dx.Bits.RunC

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7804000 in
/-- What the body's stores leave in each buffer it writes in this case, as pieces (last first), with the proof that the body,
    run on whole buffers, ends with the inputs as they were and each written buffer at its pieces. -/
noncomputable def kernelRun0_D (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : ¬cond0_2 i) (hc3 : cond0_3 i) (hc4 : cond0_4 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_dx_ln_eq_skeleton]; unfold cc0_dx_ln_skel
    simp only [k0_part178_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part179_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part180_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _; iexact HS1

end Cert.Dx.Gen

end
-- ==== Proof.Dx.Bits.RunE.lean ====
/- The run of the whole body in case E of its conditionals. -/
module

public import proofs.«01_k».proof.Proof.Dx.Bits.RunD

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 7796000 in
/-- What the body's stores leave in each buffer it writes in this case, as pieces (last first), with the proof that the body,
    run on whole buffers, ends with the inputs as they were and each written buffer at its pieces. -/
noncomputable def kernelRun0_E (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : ¬cond0_2 i) (hc3 : cond0_3 i) (hc4 : ¬cond0_4 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, fun E K => ?run⟩
  case run =>
    simp only [cc0_dx_ln_eq_skeleton]; unfold cc0_dx_ln_skel
    simp only [k0_part178_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part179_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part180_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [HS0]; · iexists _; iexact HS0
    iexists _; iexact HS1

end Cert.Dx.Gen

end
-- ==== Proof.Dx.Bits.Frame.lean ====
module

public import proofs.«01_k».proof.Proof.Dx.Bits.RunA
public import proofs.«01_k».proof.Proof.Dx.Bits.RunB
public import proofs.«01_k».proof.Proof.Dx.Bits.RunC
public import proofs.«01_k».proof.Proof.Dx.Bits.RunD
public import proofs.«01_k».proof.Proof.Dx.Bits.RunE

@[expose] public section

set_option maxRecDepth 16384

noncomputable section

namespace Cert.Dx.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the frame: no buffer's contents are named, neither the staging buffers' (all of them forgotten
    below: the last block of the cotangent codes overhangs its array) nor the scratch buffers'. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window is forgotten: its buffer is handed to the body at anything and taken back at anything. -/
def forgets0 : Fin 12 → Bool := fun _ => true

theorem A_eq (c : Dev nD) (w : Fin cfg0.W) : (dats m 0 c).A w = V m c (Pipeline.arrRef spec0 w) := by
  dsimp only [dats]

/-- What the body is called with at a point: the scratch buffers and the staging buffers, all at anything; and what it returns. -/
def bodyInv (c : Dev nD) (t : Fin cfg0.N) : sProp 𝕄 :=
  iprop(iprop(iprop((∃ d, owns (c : Thread nD τ) scM0_0 fullShare d) ∗ (∃ d, owns (c : Thread nD τ) scM0_1 fullShare d)) ∗ (∃ r, prngReg c r))
    ∗ (dats m 0 c).owesAt () t.castSucc
    ∗ (∃ X, owns (c : Thread nD τ) (ms0_0 t) fullShare X)
    ∗ (∃ X, owns (c : Thread nD τ) (ms0_1 t) fullShare X)
    ∗ (∃ X, owns (c : Thread nD τ) (ms0_2 t) fullShare X)
    ∗ (∃ X, owns (c : Thread nD τ) (ms0_3 t) fullShare X)
    ∗ (∃ X, owns (c : Thread nD τ) (ms0_4 t) fullShare X)
    ∗ (∃ X, owns (c : Thread nD τ) (ms0_5 t) fullShare X)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X)
    ∗ (∃ X, owns (c : Thread nD τ) (ms0_11 t) fullShare X))

set_option maxHeartbeats 9600000 in
/-- The body at any point, by the run of the case the point is in. -/
theorem sound_body (c : Dev nD) (t : Fin cfg0.N) :
    bodyInv m c t ⊢ wp frame (wpE (defs₀ (F := F)) Variants.none c none) Set.univ (bodyAt0 t) (fun _ => bodyInv m c t) := by
  unfold bodyInv bodyAt0
  have hN : t.val < 432 := lt_of_lt_of_eq t.isLt (show cfg0.N = 432 from N_0)
  iintro ⟨⟨⟨HS0, HS1⟩, Hg⟩, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩⟩
  by_cases h0 : t.val % 9 = 0
  · iapply ((kernelRun0_A c (grid0.coords t) _ _ _ _ _ _ _ _ _ _ _ _ _ _ _ _ _ _ _ _ _ _ _ _ _ _ _ _ ((hcond0_0 t).mpr h0) ((hcond0_1 t).mpr (by omega)) (fun h => absurd ((hcond0_2 t).mp h) (by omega)) (fun h => absurd ((hcond0_3 t).mp h) (by omega)) x0 x1 x2 x3 x4 x5 x6 x7 x8 x9).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, ⟨%es0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    iexact H11
  by_cases h1 : t.val % 9 ≤ 3
  · icases HS0 with ⟨%xs0, HS0⟩
    iapply ((kernelRun0_B c (grid0.coords t) _ _ _ _ _ _ _ _ _ _ _ _ _ _ _ _ _ _ _ _ _ _ _ _ _ _ _ _ (fun h => absurd ((hcond0_0 t).mp h) (by omega)) ((hcond0_1 t).mpr (by omega)) (fun h => absurd ((hcond0_2 t).mp h) (by omega)) (fun h => absurd ((hcond0_3 t).mp h) (by omega)) x0 x1 x2 x3 x4 x5 x6 x7 x8 x9 xs0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, ⟨%es0, HS0⟩, HS1⟩
    isplitl [HS0 HS1 Hg]
    · isplitl [HS0 HS1]
      · isplitl [HS0]
        · iexists _; unfold owns; iexists _; isplitr
          swap; · iexact HS0
          ipureintro; rfl
        iexact HS1
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    iexact H11
  by_cases h2 : t.val % 9 ≤ 7
  · icases HS0 with ⟨%xs0, HS0⟩
    iapply ((kernelRun0_C c (grid0.coords t) _ _ _ _ _ _ _ _ _ _ _ _ _ _ _ _ _ _ _ _ _ _ _ _ _ _ _ _ (fun h => absurd ((hcond0_0 t).mp h) (by omega)) (fun h => absurd ((hcond0_1 t).mp h) (by omega)) ((hcond0_2 t).mpr (by omega)) (fun h => absurd ((hcond0_3 t).mp h) (by omega)) x0 x1 x2 x3 x4 x5 x6 x7 x8 x9 xs0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, ⟨%es0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    iexact H11
  by_cases h4 : t.val < 9
  · icases HS0 with ⟨%xs0, HS0⟩
    iapply ((kernelRun0_D c (grid0.coords t) _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) x0 x1 x2 x3 x4 x5 x6 x7 x8 x9 xs0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [HS0]; · iexact HS0
    isplitl [HS1]; · iexact HS1
    iintro ⟨H0, H1, H2, H3, H4, H5, H6, H7, H8, H9, H10, H11, ⟨%es0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexact H10
    iexact H11
  icases HS0 with ⟨%xs0, HS0⟩
  iapply ((kernelRun0_E c (grid0.coords t) _ _ _ _ _ _ _ _ _ _ _ _ _ _ _ _ _ _ _ _ _ _ _ _ _ _ _ _ (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) x0 x1 x2 x3 x4 x5 x6 x7 x8 x9 xs0).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, H10, H11, ⟨%es0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexact H10
  iexact H11
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row, show (dats m 0 c).Φ t.castSucc = Pipeline.ΦA spec0 c from rfl, show (dats m 0 c).Φ t.succ = Pipeline.ΦA spec0 c from rfl, PhiA0_eq]
  exact triple_restated (sound_body m c t) rfl .rfl fun _ => .rfl

set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array ends as it was. -/
theorem arr_in (c : Dev nD) (w : Fin 12) (hw : (cfg0.win w).isOut = false) {X} (h : ((dats (F := F) m 0 c).toRForget forgets0).ArrAt w (cfgs 0).N X) :
    X = V m c (Pipeline.arrRef spec0 w) := by
  have e := Pipeline.RDat.ArrAt_in (rd := (dats (F := F) m 0 c).toRForget forgets0) w hw (cfgs 0).N
  rw [show ((dats (F := F) m 0 c).toRForget forgets0).ArrAt w (cfgs 0).N = _ from e] at h
  exact h.trans (A_eq m c w)

set_option maxHeartbeats 4000000 in
/-- The frame: the run ends, with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨(arr_in m c 0 rfl ((h.1 c).1 0)).trans (V_main_arg0 m c),
      (arr_in m c 1 rfl ((h.1 c).1 1)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main_quiescent m ρ)

end Cert.Dx.Gen
-- ==== Proof.Dx.Ideal.Cases.lean ====
/- The branch conditions of the body in closed form over the grid points, where the output windows are idle, and the
   staging and scratch buffers under short names. -/
module

public import proofs.«01_k».proof.Proof.Gen.DxIdeal.Frame
public import proofs.«01_k».proof.Proof.Gen.DxIdeal.Skeleton
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The body's branch conditions -/

/-- The body's condition 0, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 9) — by arithmetic of the point. -/
theorem hcond0_0 : ∀ t : Fin cfg0.N, cond0_0 (grid0.coords t) ↔ t.val % 9 = 0 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_0, e0, e1]
    word_cmp
   : ∀ t : Fin grid0.N, cond0_0 (grid0.coords t) ↔ t.val % 9 = 0)

/-- The body's condition 1, from the grid coordinates. -/
abbrev cond0_1 (i : grid0.Coords) : Prop := (Scalar.cmpi .ne (Scalar.extui (Scalar.cmpi .slt (BitVec.ofNat 32 (i 1).val) 4#32)) 0#32) = 1#1
/-- It holds at the points whose coordinates have i1 ≤ 3 — decided over the grid. -/
theorem hcond0_1 : ∀ t : Fin cfg0.N, cond0_1 (grid0.coords t) ↔ t.val % 9 ≤ 3 :=
  (by decide +kernel : ∀ t : Fin grid0.N, cond0_1 (grid0.coords t) ↔ t.val % 9 ≤ 3)

/-- The body's condition 2, from the grid coordinates. -/
abbrev cond0_2 (i : grid0.Coords) : Prop := (Scalar.cmpi .ne (Scalar.extui (Scalar.andi (Scalar.cmpi .sge (BitVec.ofNat 32 (i 1).val) 4#32) (Scalar.cmpi .slt (BitVec.ofNat 32 (i 1).val) 8#32))) 0#32) = 1#1
/-- It holds at the points whose coordinates have 4 ≤ i1 and i1 ≤ 7 — decided over the grid. -/
theorem hcond0_2 : ∀ t : Fin cfg0.N, cond0_2 (grid0.coords t) ↔ (4 ≤ t.val % 9 ∧ t.val % 9 ≤ 7) :=
  (by decide +kernel : ∀ t : Fin grid0.N, cond0_2 (grid0.coords t) ↔ (4 ≤ t.val % 9 ∧ t.val % 9 ≤ 7))

/-- The body's condition 3, from the grid coordinates. -/
abbrev cond0_3 (i : grid0.Coords) : Prop := k0_cond4 i = 1#1
/-- It holds at the points ≡ 8 (mod 9) — by arithmetic of the point. -/
theorem hcond0_3 : ∀ t : Fin cfg0.N, cond0_3 (grid0.coords t) ↔ t.val % 9 = 8 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_3, k0_cond4, e0, e1]
    word_cmp
   : ∀ t : Fin grid0.N, cond0_3 (grid0.coords t) ↔ t.val % 9 = 8)

/-- The body's condition 4, from the grid coordinates. -/
abbrev cond0_4 (i : grid0.Coords) : Prop := k0_cond5 i = 1#1
/-- It holds at the points before point 9 — by arithmetic of the point. -/
theorem hcond0_4 : ∀ t : Fin cfg0.N, cond0_4 (grid0.coords t) ↔ t.val < 9 :=
  (fun t => by
    have ht : t.val < 432 := Nat.lt_of_lt_of_eq t.isLt N_0
    have e0 : (grid0.coords t 0).val = t.val / 9 % 48 := Pipeline.Grid.coords_val t 0 (by decide) rfl
    have e1 : (grid0.coords t 1).val = t.val / 1 % 9 := Pipeline.Grid.coords_val t 1 (by decide) rfl
    simp only [cond0_4, k0_cond5, e0, e1]
    word_cmp
   : ∀ t : Fin grid0.N, cond0_4 (grid0.coords t) ↔ t.val < 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i ∧ cond0_4 i
instance conds0_D.dec (i : grid0.Coords) : Decidable (conds0_D i) :=
  @instDecidableAnd _ _ inferInstance (@instDecidableAnd _ _ inferInstance (@instDecidableAnd _ _ inferInstance (@instDecidableAnd _ _ inferInstance inferInstance)))
/-- Case E's branch conditions on the grid, as one proposition. -/
abbrev conds0_E (i : grid0.Coords) : Prop := ¬cond0_0 i ∧ ¬cond0_1 i ∧ ¬cond0_2 i ∧ cond0_3 i ∧ ¬cond0_4 i
instance conds0_E.dec (i : grid0.Coords) : Decidable (conds0_E i) :=
  @instDecidableAnd _ _ inferInstance (@instDecidableAnd _ _ inferInstance (@instDecidableAnd _ _ inferInstance (@instDecidableAnd _ _ inferInstance inferInstance)))
/-- At the points of case A the printed configuration (`Cfg.idle`) calls output 10 idle: the case stores nothing into it. -/
theorem idleAt0_10_A : ∀ t : Fin cfg0.N, cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_A (grid0.coords t) → cfg0.idle 10 (grid0.coords t) = true) t ⟨h0, h1, h2, h3⟩
/-- At the points of case A the pipeline does not write output 10's block back. -/
theorem noFlush0_10_A : ∀ t : Fin cfg0.N, cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_A (grid0.coords t) → (cfg0.win 10).flush t = false) t ⟨h0, h1, h2, h3⟩
/-- At the points of case B the printed configuration (`Cfg.idle`) calls output 10 idle: the case stores nothing into it. -/
theorem idleAt0_10_B : ∀ t : Fin cfg0.N, ¬cond0_0 (grid0.coords t) → cond0_1 (grid0.coords t) → ¬cond0_2 (grid0.coords t) → ¬cond0_3 (grid0.coords t) → cfg0.idle 10 (grid0.coords t) = true :=
  fun t h0 h1 h2 h3 => (by decide +kernel : ∀ t : Fin cfg0.N, conds0_B (grid0.coords t) → cfg0.idle 10 (grid0.coords t) = true) t ⟨h0, h1, h2, h3⟩
/-- At the points of case B the pipeline does not write output 10's block back. -/
theorem noFlush0_10_B : ∀ t : Fin cfg0.N, ¬cond0_0 (grid0.coords t) → cond0_1 (grid0.coords t) → ¬cond0_2 (grid0.coords t) → ¬cond0_3 (grid0.coords t) → (cfg0.win 10).flush t = false :=
  fun t h0 h1 h2 h3 => (by decide +kernel : ∀ t : Fin cfg0.N, conds0_B (grid0.coords t) → (cfg0.win 10).flush t = false) t ⟨h0, h1, h2, h3⟩
/-- At the points of case C the printed configuration (`Cfg.idle`) calls output 10 idle: the case stores nothing into it. -/
theorem idleAt0_10_C : ∀ t : Fin cfg0.N, ¬cond0_0 (grid0.coords t) → ¬cond0_1 (grid0.coords t) → cond0_2 (grid0.coords t) → ¬cond0_3 (grid0.coords t) → cfg0.idle 10 (grid0.coords t) = true :=
  fun t h0 h1 h2 h3 => (by decide +kernel : ∀ t : Fin cfg0.N, conds0_C (grid0.coords t) → cfg0.idle 10 (grid0.coords t) = true) t ⟨h0, h1, h2, h3⟩
/-- At the points of case C the pipeline does not write output 10's block back. -/
theorem noFlush0_10_C : ∀ t : Fin cfg0.N, ¬cond0_0 (grid0.coords t) → ¬cond0_1 (grid0.coords t) → cond0_2 (grid0.coords t) → ¬cond0_3 (grid0.coords t) → (cfg0.win 10).flush t = false :=
  fun t h0 h1 h2 h3 => (by decide +kernel : ∀ t : Fin cfg0.N, conds0_C (grid0.coords t) → (cfg0.win 10).flush t = false) t ⟨h0, h1, h2, h3⟩
/-- At the points of case D the printed configuration (`Cfg.idle`) calls output 10 live: the case stores into it. -/
theorem liveAt0_10_D : ∀ t : Fin cfg0.N, ¬cond0_0 (grid0.coords t) → ¬cond0_1 (grid0.coords t) → ¬cond0_2 (grid0.coords t) → cond0_3 (grid0.coords t) → cond0_4 (grid0.coords t) → cfg0.idle 10 (grid0.coords t) = false :=
  fun t h0 h1 h2 h3 h4 => (by decide +kernel : ∀ t : Fin cfg0.N, conds0_D (grid0.coords t) → cfg0.idle 10 (grid0.coords t) = false) t ⟨h0, h1, h2, h3, h4⟩
/-- At the points of case E the printed configuration (`Cfg.idle`) calls output 10 live: the case stores into it. -/
theorem liveAt0_10_E : ∀ t : Fin cfg0.N, ¬cond0_0 (grid0.coords t) → ¬cond0_1 (grid0.coords t) → ¬cond0_2 (grid0.coords t) → cond0_3 (grid0.coords t) → ¬cond0_4 (grid0.coords t) → cfg0.idle 10 (grid0.coords t) = false :=
  fun t h0 h1 h2 h3 h4 => (by decide +kernel : ∀ t : Fin cfg0.N, conds0_E (grid0.coords t) → cfg0.idle 10 (grid0.coords t) = false) t ⟨h0, h1, h2, h3, h4⟩
/-- Whether output 11's buffer is FRESH at each position `1 ‥ N` — holds nothing the body stored since the region's entry or the
    last write-back (written back at the point before, or idle there and fresh before it) —, as a bit mask,
    bit `n` for position `n + 1`; position 0 is fresh. `freshTab0_11_step` checks it against the configuration's own
    step point by point and `Cfg.fresh_tab` makes it `Cfg.fresh` (`fresh0_11_eq`). -/
def freshTab0_11 : ℕ → Bool
  | 0 => true
  | n + 1 => (0x8000000000000000000000000000000000000000000000000000000000000000000000000000000000000000000000000000000000ff : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 idle: the case stores nothing into it. -/
theorem idleAt0_11_A : ∀ t : Fin cfg0.N, cond0_0 (grid0.coords t) → cond0_1 (grid0.coords t) → ¬cond0_2 (grid0.coords t) → ¬cond0_3 (grid0.coords t) → cfg0.idle 11 (grid0.coords t) = true :=
  fun t h0 h1 h2 h3 => (by decide +kernel : ∀ t : Fin cfg0.N, conds0_A (grid0.coords t) → cfg0.idle 11 (grid0.coords t) = true) t ⟨h0, h1, h2, h3⟩
/-- At the points of case A the pipeline does not write output 11's block back. -/
theorem noFlush0_11_A : ∀ t : Fin cfg0.N, cond0_0 (grid0.coords t) → cond0_1 (grid0.coords t) → ¬cond0_2 (grid0.coords t) → ¬cond0_3 (grid0.coords t) → (cfg0.win 11).flush t = false :=
  fun t h0 h1 h2 h3 => (by decide +kernel : ∀ t : Fin cfg0.N, conds0_A (grid0.coords t) → (cfg0.win 11).flush t = false) t ⟨h0, h1, h2, h3⟩
/-- At the points of case B the printed configuration (`Cfg.idle`) calls output 11 idle: the case stores nothing into it. -/
theorem idleAt0_11_B : ∀ t : Fin cfg0.N, ¬cond0_0 (grid0.coords t) → cond0_1 (grid0.coords t) → ¬cond0_2 (grid0.coords t) → ¬cond0_3 (grid0.coords t) → cfg0.idle 11 (grid0.coords t) = true :=
  fun t h0 h1 h2 h3 => (by decide +kernel : ∀ t : Fin cfg0.N, conds0_B (grid0.coords t) → cfg0.idle 11 (grid0.coords t) = true) t ⟨h0, h1, h2, h3⟩
/-- At the points of case B the pipeline does not write output 11's block back. -/
theorem noFlush0_11_B : ∀ t : Fin cfg0.N, ¬cond0_0 (grid0.coords t) → cond0_1 (grid0.coords t) → ¬cond0_2 (grid0.coords t) → ¬cond0_3 (grid0.coords t) → (cfg0.win 11).flush t = false :=
  fun t h0 h1 h2 h3 => (by decide +kernel : ∀ t : Fin cfg0.N, conds0_B (grid0.coords t) → (cfg0.win 11).flush t = false) t ⟨h0, h1, h2, h3⟩
/-- At the points of case C the printed configuration (`Cfg.idle`) calls output 11 idle: the case stores nothing into it. -/
theorem idleAt0_11_C : ∀ t : Fin cfg0.N, ¬cond0_0 (grid0.coords t) → ¬cond0_1 (grid0.coords t) → cond0_2 (grid0.coords t) → ¬cond0_3 (grid0.coords t) → cfg0.idle 11 (grid0.coords t) = true :=
  fun t h0 h1 h2 h3 => (by decide +kernel : ∀ t : Fin cfg0.N, conds0_C (grid0.coords t) → cfg0.idle 11 (grid0.coords t) = true) t ⟨h0, h1, h2, h3⟩
/-- At the points of case C the pipeline does not write output 11's block back. -/
theorem noFlush0_11_C : ∀ t : Fin cfg0.N, ¬cond0_0 (grid0.coords t) → ¬cond0_1 (grid0.coords t) → cond0_2 (grid0.coords t) → ¬cond0_3 (grid0.coords t) → (cfg0.win 11).flush t = false :=
  fun t h0 h1 h2 h3 => (by decide +kernel : ∀ t : Fin cfg0.N, conds0_C (grid0.coords t) → (cfg0.win 11).flush t = false) t ⟨h0, h1, h2, h3⟩
/-- At the points of case D the printed configuration (`Cfg.idle`) calls output 11 live: the case stores into it. -/
theorem liveAt0_11_D : ∀ t : Fin cfg0.N, ¬cond0_0 (grid0.coords t) → ¬cond0_1 (grid0.coords t) → ¬cond0_2 (grid0.coords t) → cond0_3 (grid0.coords t) → cond0_4 (grid0.coords t) → cfg0.idle 11 (grid0.coords t) = false :=
  fun t h0 h1 h2 h3 h4 => (by decide +kernel : ∀ t : Fin cfg0.N, conds0_D (grid0.coords t) → cfg0.idle 11 (grid0.coords t) = false) t ⟨h0, h1, h2, h3, h4⟩
/-- At the points of case E the printed configuration (`Cfg.idle`) calls output 11 live: the case stores into it. -/
theorem liveAt0_11_E : ∀ t : Fin cfg0.N, ¬cond0_0 (grid0.coords t) → ¬cond0_1 (grid0.coords t) → ¬cond0_2 (grid0.coords t) → cond0_3 (grid0.coords t) → ¬cond0_4 (grid0.coords t) → cfg0.idle 11 (grid0.coords t) = false :=
  fun t h0 h1 h2 h3 h4 => (by decide +kernel : ∀ t : Fin cfg0.N, conds0_E (grid0.coords t) → cfg0.idle 11 (grid0.coords t) = false) t ⟨h0, h1, h2, h3, h4⟩
/-- At the points of case E, which keeps output 11's prior contents (reads it before covering, or covers it in part), the
    window's buffer is not FRESH: something was stored into it since the region's entry or its last write-back, idle points
    between or not (`Cfg.fresh`, by the table `freshTab0_11`). -/
theorem notFresh0_11_E : ∀ t : Fin cfg0.N, ¬cond0_0 (grid0.coords t) → ¬cond0_1 (grid0.coords t) → ¬cond0_2 (grid0.coords t) → cond0_3 (grid0.coords t) → ¬cond0_4 (grid0.coords t) → cfg0.fresh 11 t.val = false :=
  fun t h0 h1 h2 h3 h4 => (by intro t; rw [fresh0_11_eq t]; revert t; decide +kernel : ∀ t : Fin cfg0.N, conds0_E (grid0.coords t) → cfg0.fresh 11 t.val = false) t ⟨h0, h1, h2, h3, h4⟩

/-! ## The kernel body on any staging memrefs: a subtype the run finds -/

/-- One staging buffer of output window 10, through which its contents are stated (`View.read_writes_of_cover`: the
    choice does not matter). -/
abbrev VO0_10 : View sig .tc .vmem S1x2880x512 .bf16 := (Memref.whole cc0_stg10_0 : Memref sig .tc .vmem S1x2880x512 .bf16).view
/-- One staging buffer of output window 11, through which its contents are stated (`View.read_writes_of_cover`: the
    choice does not matter). -/
abbrev VO0_11 : View sig .tc .vmem S2880x128 .f32 := (Memref.whole cc0_stg11_0 : Memref sig .tc .vmem S2880x128 .f32).view
/-- Each window's current staging memref at point `t`, written as in `bodyAt0`, and its wholeness. -/
abbrev ms0_0 (t : Fin cfg0.N) : Memref sig .tc .vmem S2880x1920 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1920 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1920x512 .fp8e5m2 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2880x512 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x90x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2880x512 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2880x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2880x512 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2880x128 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S2880x512 .f32 := Memref.whole cc0_scratch0
abbrev scM0_1 : Memref sig .tc .vmem S1920x512 .bf16 := Memref.whole cc0_scratch1
/-- The scratch `arg14` the kernel carries between points, as a view: what it holds is stated through it. -/
abbrev VS0_0 : View sig .tc .vmem S2880x512 .f32 := scM0_0.view

/-- The invariant of the frame with the scratch operands as memrefs owned at some contents: what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.DxIdeal.Gen

end
-- ==== Proof.Dx.Ideal.Chain.lean ====
module

public import proofs.«01_k».proof.Proof.Dx.Ideal.Cases
public import Idealize.ShloMosaic.Lib.Pipeline.ValueKit
public import Idealize.ShloMosaic.Lib.Pointwise
public import Idealize.ShloMosaic.Lib.WholeRead

/-! What the slabs of 32 rows store, one slab at a time: the body works through a buffer slab by slab, and each lemma below
    adds one slab to what is known of the buffer. -/

@[expose] public section

set_option maxRecDepth 16384

noncomputable section

namespace Cert.DxIdeal.Gen

open Idealize.ShloMosaic Idealize.ShloMosaic.TcCoe Idealize.SL.Sem

/-! ## One slab stored -/

theorem canon_in {e : EltTy} {n o : ℕ} (inb : ∀ a, (![o, 0] : Fin 2 → ℕ) a + S32x512.size a ≤ (⟨2, ![n, 512]⟩ : Shape).size a)
    (w : S32x512.Idx → Elt Ideal e) (L : List (View.Piece (Elt Ideal) (⟨2, ![n, 512]⟩ : Shape) e)) (y : (⟨2, ![n, 512]⟩ : Shape).Idx)
    (h1 : o ≤ (y 0).val) (h2 : (y 0).val < o + 32) :
    View.canon (⟨Rect.unit (s := (⟨2, ![n, 512]⟩ : Shape)) ![o, 0] S32x512.size inb, w⟩ :: L) y = w (ix2 ⟨(y 0).val - o, by omega⟩ (y 1)) := by
  have e : y = (Rect.unit (s := (⟨2, ![n, 512]⟩ : Shape)) ![o, 0] S32x512.size inb).emb (ix2 (⟨(y 0).val - o, by omega⟩ : Fin 32) (y 1)) := by
    funext a
    refine Fin.ext ?_
    fin_cases a
    · show (y 0).val = o + 1 * ((y 0).val - o); omega
    · show (y 1).val = 0 + 1 * (y 1).val; omega
  conv_lhs => rw [e]
  exact View.canon_cons_emb (Rect.unit (s := (⟨2, ![n, 512]⟩ : Shape)) ![o, 0] S32x512.size inb) w L _

theorem canon_out {e : EltTy} {n o : ℕ} (inb : ∀ a, (![o, 0] : Fin 2 → ℕ) a + S32x512.size a ≤ (⟨2, ![n, 512]⟩ : Shape).size a)
    (w : S32x512.Idx → Elt Ideal e) (L : List (View.Piece (Elt Ideal) (⟨2, ![n, 512]⟩ : Shape) e)) (y : (⟨2, ![n, 512]⟩ : Shape).Idx)
    (h : (y 0).val < o ∨ o + 32 ≤ (y 0).val) :
    View.canon (⟨Rect.unit (s := (⟨2, ![n, 512]⟩ : Shape)) ![o, 0] S32x512.size inb, w⟩ :: L) y = View.canon L y := by
  refine View.canon_cons_of_not_mem _ _ fun hm => ?_
  have h' : o ≤ (y 0).val ∧ (y 0).val < o + 32 := (Rect.mem_set_unit (inb := inb)).mp hm 0
  omega

theorem canon3_in {o : ℕ} (inb : ∀ a, (![0, o, 0] : Fin 3 → ℕ) a + S1x32x512.size a ≤ S1x2880x512.size a)
    (w : S1x32x512.Idx → Elt Ideal .bf16) (L : List (View.Piece (Elt Ideal) S1x2880x512 .bf16)) (y : S1x2880x512.Idx)
    (h1 : o ≤ (y 1).val) (h2 : (y 1).val < o + 32) :
    View.canon (⟨Rect.unit (s := S1x2880x512) ![0, o, 0] S1x32x512.size inb, w⟩ :: L) y = w (ix3 0 ⟨(y 1).val - o, by omega⟩ (y 2)) := by
  have e : y = (Rect.unit (s := S1x2880x512) ![0, o, 0] S1x32x512.size inb).emb (ix3 0 (⟨(y 1).val - o, by omega⟩ : Fin 32) (y 2)) := by
    funext a
    refine Fin.ext ?_
    fin_cases a
    · have := (y 0).isLt
      show (y 0).val = 0 + 1 * 0
      change (y 0).val < 1 at this; omega
    · show (y 1).val = o + 1 * ((y 1).val - o); omega
    · show (y 2).val = 0 + 1 * (y 2).val; omega
  conv_lhs => rw [e]
  exact View.canon_cons_emb (Rect.unit (s := S1x2880x512) ![0, o, 0] S1x32x512.size inb) w L _

theorem canon3_out {o : ℕ} (inb : ∀ a, (![0, o, 0] : Fin 3 → ℕ) a + S1x32x512.size a ≤ S1x2880x512.size a)
    (w : S1x32x512.Idx → Elt Ideal .bf16) (L : List (View.Piece (Elt Ideal) S1x2880x512 .bf16)) (y : S1x2880x512.Idx)
    (h : (y 1).val < o ∨ o + 32 ≤ (y 1).val) :
    View.canon (⟨Rect.unit (s := S1x2880x512) ![0, o, 0] S1x32x512.size inb, w⟩ :: L) y = View.canon L y := by
  refine View.canon_cons_of_not_mem _ _ fun hm => ?_
  have h' : o ≤ (y 1).val ∧ (y 1).val < o + 32 := (Rect.mem_set_unit (inb := inb)).mp hm 1
  omega

/-! ## The rebuilt block of cotangents -/

/-- The block's entry: a code times the scale of its block of 32. -/
def rhs (x2 : Vec Ideal S1x1920x512 .fp8e5m2) (x3 : Vec Ideal S1x1x64x512 .f32) (y : S1920x512.Idx) : EReal :=
  x2 (ix3 0 (y 0) (y 1)) * x3 (ix4 0 0 ⟨(y 0).val / 32, by have := (y 0).isLt; change (y 0).val < 1920 at this; show _ < 64; omega⟩ (y 1))

/-- One slab of it, as the body computes it. -/
def rhsSlab (q : Vec Ideal S1x32x512 .fp8e5m2) (s : Vec Ideal S1x1x1x512 .f32) : FVec Ideal S32x512 .bf16 :=
  shapeCast S32x512 (mulf (extf .bf16 (shapeCast S32x512 q shapeCasts_S1x32x512_S32x512) bitsLt_fp8e5m2_bf16)
    (broadcastTo S32x512 (truncf .bf16 (shapeCast S1x512 s shapeCasts_S1x1x1x512_S1x512) bitsLt_bf16_f32) broadcasts_S1x512_S32x512)) shapeCasts_S32x512_S32x512

theorem rhsSlab_apply (q : Vec Ideal S1x32x512 .fp8e5m2) (s : Vec Ideal S1x1x1x512 .f32) (i : S32x512.Idx) :
    rhsSlab q s i = (show EReal from q (ix3 0 (i 0) (i 1))) * (show EReal from s (ix4 0 0 0 (i 1))) := by
  unfold rhsSlab
  pointwise

def RhsTo (x2 : Vec Ideal S1x1920x512 .fp8e5m2) (x3 : Vec Ideal S1x1x64x512 .f32) (n : ℕ) (L : List (View.Piece (Elt Ideal) S1920x512 .bf16)) : Prop :=
  ∀ y : S1920x512.Idx, (y 0).val < 32 * n → View.canon L y = rhs x2 x3 y

theorem RhsTo.nil (x2 : Vec Ideal S1x1920x512 .fp8e5m2) (x3 : Vec Ideal S1x1x64x512 .f32) : RhsTo x2 x3 0 [] :=
  fun y h => absurd h (by omega)

theorem RhsTo.step {x2 : Vec Ideal S1x1920x512 .fp8e5m2} {x3 : Vec Ideal S1x1x64x512 .f32} {n : ℕ} {L : List (View.Piece (Elt Ideal) S1920x512 .bf16)}
    {arg4 : Memref sig .tc .vmem S1x1920x512 .fp8e5m2} {harg4 : arg4.IsWhole} {arg5 : Memref sig .tc .vmem S1x1x64x512 .f32} {harg5 : arg5.IsWhole}
    {inb : ∀ a, (![32 * n, 0] : Fin 2 → ℕ) a + S32x512.size a ≤ S1920x512.size a}
    {i4 : ∀ a, (![0, 32 * n, 0] : Fin 3 → ℕ) a + S1x32x512.size a ≤ S1x1920x512.size a}
    {i5 : ∀ a, (![0, 0, n, 0] : Fin 4 → ℕ) a + S1x1x1x512.size a ≤ S1x1x64x512.size a}
    (h : RhsTo x2 x3 n L) :
    RhsTo x2 x3 (n + 1) (⟨Rect.unit (s := S1920x512) ![32 * n, 0] S32x512.size inb,
      rhsSlab (View.readAt (Elt Ideal) arg4.view (Rect.unit (s := S1x1920x512) ![0, 32 * n, 0] S1x32x512.size i4).toLoadRect (harg4.unread x2))
        (View.readAt (Elt Ideal) arg5.view (Rect.unit (s := S1x1x64x512) ![0, 0, n, 0] S1x1x1x512.size i5).toLoadRect (harg5.unread x3))⟩ :: L) := by
  intro y hy
  by_cases h1 : 32 * n ≤ (y 0).val
  · refine (canon_in inb _ L y h1 (by omega)).trans ?_
    refine (rhsSlab_apply _ _ _).trans ?_
    refine congrArg₂ (· * · : EReal → EReal → EReal) ((harg4.readAt_unread x2 _ _).trans (congrArg x2 ?_)) ((harg5.readAt_unread x3 _ _).trans (congrArg x3 ?_))
    · funext a
      refine Fin.ext ?_
      fin_cases a
      · rfl
      · show 32 * n + 1 * ((y 0).val - 32 * n) = (y 0).val; omega
      · show 0 + 1 * (y 1).val = (y 1).val; omega
    · funext a
      refine Fin.ext ?_
      fin_cases a
      · rfl
      · rfl
      · show n + 1 * 0 = (y 0).val / 32; omega
      · show 0 + 1 * (y 1).val = (y 1).val; omega
  · exact (canon_out inb _ L y (by omega)).trans (h y (by omega))

/-! ## The layer norm's two sums, and the scaled gradient stored back -/

/-- The gradient times gamma. -/
def dxhF (A : Vec Ideal S2880x512 .f32) (g : Vec Ideal S2880x1 .f32) (y : S2880x512.Idx) : EReal := A y * g (ix2 (y 0) 0)

/-- The normalised input: a code times its row's scale. -/
def xhF (x6 : Vec Ideal S1x2880x512 .fp8e4m3) (xv : Vec Ideal S1x512 .f32) (y : S2880x512.Idx) : EReal := x6 (ix3 0 (y 0) (y 1)) * xv (ix2 0 (y 1))

/-- A column's entry in row `n`, and zero past the last row. -/
def atRow (f : S2880x512.Idx → EReal) (n : ℕ) (j : Fin 512) : EReal := if h : n < 2880 then f (ix2 ⟨n, h⟩ j) else 0

theorem pay730_apply (dh : Vec Ideal S32x512 .f32) (gm : Vec Ideal S32x1 .f32) (i : S32x512.Idx) :
    k0_pay730 (F := Ideal) dh gm i = (show EReal from dh i) * (show EReal from gm (ix2 (i 0) 0)) := by
  unfold k0_pay730
  pointwise

theorem pay735_apply (xv : Vec Ideal S1x512 .f32) (s : Vec Ideal S1x32x512 .fp8e4m3) (i : S32x512.Idx) :
    k0_pay735 (F := Ideal) xv s i = (show EReal from s (ix3 0 (i 0) (i 1))) * (show EReal from xv (ix2 0 (i 1))) := by
  unfold k0_pay735
  pointwise

/-- Eight rows at a time, the four groups of a slab are added to a sum. -/
def add4 (m : FVec Ideal S8x512 .f32) (d : FVec Ideal S32x512 .f32) : FVec Ideal S8x512 .f32 :=
  addf (addf (addf (addf m (extractStridedSlice S8x512 ![0, 0] d slices_S32x512_o0_0_S8x512)) (extractStridedSlice S8x512 ![8, 0] d slices_S32x512_o8_0_S8x512))
    (extractStridedSlice S8x512 ![16, 0] d slices_S32x512_o16_0_S8x512)) (extractStridedSlice S8x512 ![24, 0] d slices_S32x512_o24_0_S8x512)

theorem add4_apply (m : FVec Ideal S8x512 .f32) (d : FVec Ideal S32x512 .f32) (i : Fin 8) (j : Fin 512) :
    add4 m d (ix2 i j) = ((((show EReal from m (ix2 i j)) + (show EReal from d (ix2 ⟨i.val, by omega⟩ j))) + (show EReal from d (ix2 ⟨8 + i.val, by omega⟩ j)))
      + (show EReal from d (ix2 ⟨16 + i.val, by omega⟩ j))) + (show EReal from d (ix2 ⟨24 + i.val, by omega⟩ j)) := by
  unfold add4
  pointwise

/-- One slab's part of a sum over the rows. -/
theorem add4_sum (f : S2880x512.Idx → EReal) {r : ℕ} (hr : r < 90) (m : FVec Ideal S8x512 .f32) (d : FVec Ideal S32x512 .f32)
    (hd : ∀ (i : Fin 32) (j : Fin 512), d (ix2 i j) = f (ix2 ⟨32 * r + i.val, by omega⟩ j))
    (hm : ∀ (i : Fin 8) (j : Fin 512), m (ix2 i j) = ∑ k ∈ Finset.range (4 * r), atRow f (8 * k + i.val) j) (i : Fin 8) (j : Fin 512) :
    add4 m d (ix2 i j) = ∑ k ∈ Finset.range (4 * (r + 1)), atRow f (8 * k + i.val) j := by
  rw [add4_apply, show 4 * (r + 1) = 4 * r + 1 + 1 + 1 + 1 by omega, Finset.sum_range_succ, Finset.sum_range_succ, Finset.sum_range_succ, Finset.sum_range_succ, ← hm]
  have at_ : ∀ (n : ℕ) (a : Fin 32), n = 32 * r + a.val → (show EReal from d (ix2 a j)) = atRow f n j := by
    intro n a hn
    have h : n < 2880 := by omega
    refine (hd a j).trans ?_
    unfold atRow
    rw [dif_pos h]
    exact congrArg (fun q => f (ix2 q j)) (Fin.ext hn.symm)
  refine congrArg₂ (· + ·) (congrArg₂ (· + ·) (congrArg₂ (· + ·) (congrArg₂ (· + ·) rfl ?_) ?_) ?_) ?_
  · exact at_ _ _ (by dsimp only; omega)
  · exact at_ _ _ (by dsimp only; omega)
  · exact at_ _ _ (by dsimp only; omega)
  · exact at_ _ _ (by dsimp only; omega)

/-- After `r` slabs: the rows before are stored scaled, the others are as they were, and the two sums hold the rows before. -/
structure St (A : Vec Ideal S2880x512 .f32) (g : Vec Ideal S2880x1 .f32) (x6 : Vec Ideal S1x2880x512 .fp8e4m3) (xv : Vec Ideal S1x512 .f32)
    (r : ℕ) (L : List (View.Piece (Elt Ideal) S2880x512 .f32)) (m1 m2 : FVec Ideal S8x512 .f32) : Prop where
  lo : ∀ y : S2880x512.Idx, (y 0).val < 32 * r → View.canon L y = dxhF A g y
  hi : ∀ y : S2880x512.Idx, 32 * r ≤ (y 0).val → View.canon L y = A y
  s1 : ∀ (i : Fin 8) (j : Fin 512), m1 (ix2 i j) = ∑ k ∈ Finset.range (4 * r), atRow (dxhF A g) (8 * k + i.val) j
  s2 : ∀ (i : Fin 8) (j : Fin 512), m2 (ix2 i j) = ∑ k ∈ Finset.range (4 * r), atRow (fun y => dxhF A g y * xhF x6 xv y) (8 * k + i.val) j

theorem St.base (A : Vec Ideal S2880x512 .f32) (g : Vec Ideal S2880x1 .f32) (x6 : Vec Ideal S1x2880x512 .fp8e4m3) (xv : Vec Ideal S1x512 .f32)
    {inb : ∀ a, (![0, 0] : Fin 2 → ℕ) a + S2880x512.size a ≤ S2880x512.size a} :
    St A g x6 xv 0 [⟨Rect.unit ![0, 0] S2880x512.size inb, A⟩] (broadcast S8x512 (Scalar.ofBits .f32 0x00000000#32)) (broadcast S8x512 (Scalar.ofBits .f32 0x00000000#32)) where
  lo y h := absurd h (by omega)
  hi y _ := congrFun (View.canon_cons_unit_lit inb A [] (by intro a; fin_cases a <;> rfl)) y
  s1 i j := by rw [Nat.mul_zero, Finset.sum_range_zero]; pointwise
  s2 i j := by rw [Nat.mul_zero, Finset.sum_range_zero]; pointwise

theorem St.step {A : Vec Ideal S2880x512 .f32} {g : Vec Ideal S2880x1 .f32} {x6 : Vec Ideal S1x2880x512 .fp8e4m3} {xv : Vec Ideal S1x512 .f32}
    {r : ℕ} {L : List (View.Piece (Elt Ideal) S2880x512 .f32)} {m1 m2 : FVec Ideal S8x512 .f32}
    {arg8 : Memref sig .tc .vmem S1x2880x512 .fp8e4m3} {harg8 : arg8.IsWhole} {arg11 : Memref sig .tc .vmem S2880x1 .f32} {harg11 : arg11.IsWhole}
    {arg14 : Memref sig .tc .vmem S2880x512 .f32}
    {inb : ∀ a, (![32 * r, 0] : Fin 2 → ℕ) a + S32x512.size a ≤ S2880x512.size a}
    {i8 : ∀ a, (![0, 32 * r, 0] : Fin 3 → ℕ) a + S1x32x512.size a ≤ S1x2880x512.size a}
    {i11 : ∀ a, (![32 * r, 0] : Fin 2 → ℕ) a + S32x1.size a ≤ S2880x1.size a}
    (h : St A g x6 xv r L m1 m2) :
    St A g x6 xv (r + 1) (⟨Rect.unit (s := S2880x512) ![32 * r, 0] S32x512.size inb,
        k0_pay731 (F := Ideal) (arg14.view.readCov L (Rect.unit (s := S2880x512) ![32 * r, 0] S32x512.size inb).toLoadRect)
          (View.readAt (Elt Ideal) arg11.view (Rect.unit (s := S2880x1) ![32 * r, 0] S32x1.size i11).toLoadRect (harg11.unread g))⟩ :: L)
      (add4 m1 (k0_pay730 (F := Ideal) (arg14.view.readCov L (Rect.unit (s := S2880x512) ![32 * r, 0] S32x512.size inb).toLoadRect)
          (View.readAt (Elt Ideal) arg11.view (Rect.unit (s := S2880x1) ![32 * r, 0] S32x1.size i11).toLoadRect (harg11.unread g))))
      (add4 m2 (mulf (k0_pay730 (F := Ideal) (arg14.view.readCov L (Rect.unit (s := S2880x512) ![32 * r, 0] S32x512.size inb).toLoadRect)
          (View.readAt (Elt Ideal) arg11.view (Rect.unit (s := S2880x1) ![32 * r, 0] S32x1.size i11).toLoadRect (harg11.unread g)))
        (k0_pay735 (F := Ideal) xv (View.readAt (Elt Ideal) arg8.view (Rect.unit (s := S1x2880x512) ![0, 32 * r, 0] S1x32x512.size i8).toLoadRect (harg8.unread x6))))) := by
  have hr : r < 90 := by
    have := inb 0
    change 32 * r + 32 ≤ 2880 at this; omega
  have hdx : ∀ (i : Fin 32) (j : Fin 512), k0_pay730 (F := Ideal) (arg14.view.readCov L (Rect.unit (s := S2880x512) ![32 * r, 0] S32x512.size inb).toLoadRect)
          (View.readAt (Elt Ideal) arg11.view (Rect.unit (s := S2880x1) ![32 * r, 0] S32x1.size i11).toLoadRect (harg11.unread g)) (ix2 i j) = dxhF A g (ix2 ⟨32 * r + i.val, by omega⟩ j) := by
    intro i j
    refine (pay730_apply _ _ _).trans ?_
    refine congrArg₂ (· * · : EReal → EReal → EReal) ?_ ?_
    · refine (congrFun (View.readCov_eq_canon' arg14.view L _) _).trans ?_
      have e : (Rect.unit (s := S2880x512) ![32 * r, 0] S32x512.size inb).toLoadRect.idx (ix2 i j) = (ix2 ⟨32 * r + i.val, by omega⟩ j : S2880x512.Idx) := by
        funext a
        refine Fin.ext ?_
        fin_cases a
        · show 32 * r + 1 * i.val = 32 * r + i.val; omega
        · show 0 + 1 * j.val = j.val; omega
      rw [e]
      exact h.hi _ (by show 32 * r ≤ 32 * r + i.val; omega)
    · refine (harg11.readAt_unread g _ _).trans (congrArg g ?_)
      funext a
      refine Fin.ext ?_
      fin_cases a
      · show 32 * r + 1 * i.val = 32 * r + i.val; omega
      · rfl
  have hxh : ∀ (i : Fin 32) (j : Fin 512), k0_pay735 (F := Ideal) xv (View.readAt (Elt Ideal) arg8.view (Rect.unit (s := S1x2880x512) ![0, 32 * r, 0] S1x32x512.size i8).toLoadRect (harg8.unread x6)) (ix2 i j)
      = xhF x6 xv (ix2 ⟨32 * r + i.val, by omega⟩ j) := by
    intro i j
    refine (pay735_apply _ _ _).trans ?_
    refine congrArg₂ (· * · : EReal → EReal → EReal) ((harg8.readAt_unread x6 _ _).trans (congrArg x6 ?_)) rfl
    funext a
    refine Fin.ext ?_
    fin_cases a
    · rfl
    · show 32 * r + 1 * i.val = 32 * r + i.val; omega
    · show 0 + 1 * j.val = j.val; omega
  refine ⟨fun y hy => ?_, fun y hy => ?_, add4_sum _ hr _ _ hdx h.s1, add4_sum _ hr _ _ (fun i j => ?_) h.s2⟩
  · by_cases h1 : 32 * r ≤ (y 0).val
    · refine (canon_in inb _ L y h1 (by omega)).trans ?_
      have e731 : ∀ (a : Vec Ideal S32x512 .f32) (b : Vec Ideal S32x1 .f32), k0_pay731 (F := Ideal) a b = k0_pay730 (F := Ideal) a b := by
        intro a b; unfold k0_pay731; funext i; pointwise
      rw [e731]
      refine (hdx _ _).trans (congrArg (dxhF A g) ?_)
      funext a
      refine Fin.ext ?_
      fin_cases a
      · show 32 * r + ((y 0).val - 32 * r) = (y 0).val; omega
      · rfl
    · exact (canon_out inb _ L y (by omega)).trans (h.lo y (by omega))
  · exact (canon_out inb _ L y (by omega)).trans (h.hi y (by omega))
  · exact congrArg₂ (· * · : EReal → EReal → EReal) (hdx i j) (hxh i j)

/-- The constant one over the number of columns. -/
def invD : EReal := Named.named (F := Ideal) κ "inv_d" (φ := .f32) 0x39B60B61#32

/-- The eight partial sums added up and divided by the number of rows. -/
def scaleSum (m : FVec Ideal S8x512 .f32) : FVec Ideal S1x512 .f32 :=
  mulf (shapeCast S1x512 (multiReduction .add [0] S512 m 0x00000000#32 reduces_S8x512_S512 (.inl rfl) rfl) shapeCasts_S512_S1x512)
    (broadcast S1x512 (Named.named (F := Ideal) κ "inv_d" (φ := .f32) 0x39B60B61#32))

theorem sum_groups (f : ℕ → EReal) (N : ℕ) : ∑ i : Fin 8, ∑ k ∈ Finset.range N, f (8 * k + i.val) = ∑ n ∈ Finset.range (8 * N), f n := by
  induction N with
  | zero => simp
  | succ N ih =>
    simp only [Finset.sum_range_succ, Finset.sum_add_distrib, ih, Nat.mul_succ, Nat.mul_zero]
    simp only [Finset.sum_range_succ, Fin.sum_univ_eight, add_assoc]
    rfl

theorem scaleSum_apply (f : S2880x512.Idx → EReal) (m : FVec Ideal S8x512 .f32)
    (hm : ∀ (i : Fin 8) (j : Fin 512), m (ix2 i j) = ∑ k ∈ Finset.range (4 * 90), atRow f (8 * k + i.val) j) (j : Fin 512) :
    scaleSum m (ix2 0 j) = (∑ n : Fin 2880, f (ix2 n j)) * invD := by
  have h : scaleSum m (ix2 0 j) = (∑ i : Fin 8, (show EReal from m (ix2 i j))) * invD := by
    unfold scaleSum invD
    pointwise
  rw [h]
  refine congrArg (· * invD) ?_
  refine (Finset.sum_congr rfl fun i _ => hm i j).trans ?_
  refine (sum_groups (fun n => atRow f n j) (4 * 90)).trans ?_
  rw [show 8 * (4 * 90) = 2880 from rfl, Finset.sum_range]
  refine Finset.sum_congr rfl fun n _ => ?_
  unfold atRow
  exact dif_pos n.isLt

/-! ## The result's slabs -/

theorem pay4_apply (rs M1 M2 : Vec Ideal S1x512 .f32) (xh dh : Vec Ideal S32x512 .f32) (q : Vec Ideal S1x32x512 .fp8e5m2) (s : Vec Ideal S1x1x512 .f32) (i : S1x32x512.Idx) :
    k0_pay4 (F := Ideal) rs xh (k0_pay945 (F := Ideal) M1 dh) (k0_pay946 (F := Ideal) M2) q s i
      = (show EReal from q (ix3 0 (i 1) (i 2))) * (show EReal from s (ix3 0 0 (i 2)))
        + (show EReal from rs (ix2 0 (i 2))) * (((show EReal from dh (ix2 (i 1) (i 2))) - (show EReal from M1 (ix2 0 (i 2))))
          - (show EReal from xh (ix2 (i 1) (i 2))) * (show EReal from M2 (ix2 0 (i 2)))) := by
  unfold k0_pay4 k0_pay945 k0_pay946
  pointwise
  refine congrArg₂ (· + · : EReal → EReal → EReal) (congrArg₂ (· * · : EReal → EReal → EReal) (congrArg q ?_) rfl) rfl
  funext a
  refine Fin.ext ?_
  fin_cases a
  · have := (i 0).isLt
    change (i 0).val < 1 at this
    show (i 0).val = 0; omega
  · rfl
  · rfl

/-- The result's entry. -/
def outF (D : S2880x512.Idx → EReal) (x4 : Vec Ideal S1x2880x512 .fp8e5m2) (x5 : Vec Ideal S1x90x512 .f32) (x6 : Vec Ideal S1x2880x512 .fp8e4m3)
    (xv rs M1 M2 : Vec Ideal S1x512 .f32) (y : S1x2880x512.Idx) : EReal :=
  (show EReal from x4 (ix3 0 (y 1) (y 2))) * (show EReal from x5 (ix3 0 ⟨(y 1).val / 32, Nat.div_lt_of_lt_mul (y 1).isLt⟩ (y 2)))
    + (show EReal from rs (ix2 0 (y 2))) * ((D (ix2 (y 1) (y 2)) - (show EReal from M1 (ix2 0 (y 2)))) - xhF x6 xv (ix2 (y 1) (y 2)) * (show EReal from M2 (ix2 0 (y 2))))

def OutTo (F : S1x2880x512.Idx → EReal) (n : ℕ) (L : List (View.Piece (Elt Ideal) S1x2880x512 .bf16)) : Prop :=
  ∀ y : S1x2880x512.Idx, (y 1).val < 32 * n → View.canon L y = F y

theorem OutTo.nil (F : S1x2880x512.Idx → EReal) : OutTo F 0 [] := fun y h => absurd h (by omega)

theorem OutTo.step {D : S2880x512.Idx → EReal} {x4 : Vec Ideal S1x2880x512 .fp8e5m2} {x5 : Vec Ideal S1x90x512 .f32} {x6 : Vec Ideal S1x2880x512 .fp8e4m3}
    {xv rs M1 M2 : Vec Ideal S1x512 .f32} {LD : List (View.Piece (Elt Ideal) S2880x512 .f32)} (hD : ∀ y, View.canon LD y = D y)
    {n : ℕ} {L : List (View.Piece (Elt Ideal) S1x2880x512 .bf16)}
    {arg6 : Memref sig .tc .vmem S1x2880x512 .fp8e5m2} {harg6 : arg6.IsWhole} {arg7 : Memref sig .tc .vmem S1x90x512 .f32} {harg7 : arg7.IsWhole}
    {arg8 : Memref sig .tc .vmem S1x2880x512 .fp8e4m3} {harg8 : arg8.IsWhole} {arg14 : Memref sig .tc .vmem S2880x512 .f32}
    {inb : ∀ a, (![0, 32 * n, 0] : Fin 3 → ℕ) a + S1x32x512.size a ≤ S1x2880x512.size a}
    {i14 : ∀ a, (![32 * n, 0] : Fin 2 → ℕ) a + S32x512.size a ≤ S2880x512.size a}
    {i7 : ∀ a, (![0, n, 0] : Fin 3 → ℕ) a + S1x1x512.size a ≤ S1x90x512.size a}
    (h : OutTo (outF D x4 x5 x6 xv rs M1 M2) n L) :
    OutTo (outF D x4 x5 x6 xv rs M1 M2) (n + 1) (⟨Rect.unit (s := S1x2880x512) ![0, 32 * n, 0] S1x32x512.size inb,
      k0_pay4 (F := Ideal) rs (k0_pay735 (F := Ideal) xv (View.readAt (Elt Ideal) arg8.view (Rect.unit (s := S1x2880x512) ![0, 32 * n, 0] S1x32x512.size inb).toLoadRect (harg8.unread x6)))
        (k0_pay945 (F := Ideal) M1 (arg14.view.readCov LD (Rect.unit (s := S2880x512) ![32 * n, 0] S32x512.size i14).toLoadRect)) (k0_pay946 (F := Ideal) M2)
        (View.readAt (Elt Ideal) arg6.view (Rect.unit (s := S1x2880x512) ![0, 32 * n, 0] S1x32x512.size inb).toLoadRect (harg6.unread x4))
        (View.readAt (Elt Ideal) arg7.view (Rect.unit (s := S1x90x512) ![0, n, 0] S1x1x512.size i7).toLoadRect (harg7.unread x5))⟩ :: L) := by
  intro y hy
  by_cases h1 : 32 * n ≤ (y 1).val
  · refine (canon3_in inb _ L y h1 (by omega)).trans ?_
    refine (pay4_apply _ _ _ _ _ _ _ _).trans ?_
    have e1 : (⟨(y 1).val - 32 * n, by omega⟩ : Fin 32).val + 32 * n = (y 1).val := by show (y 1).val - 32 * n + 32 * n = _; omega
    unfold outF
    refine congrArg₂ (· + · : EReal → EReal → EReal) (congrArg₂ (· * · : EReal → EReal → EReal) ?_ ?_)
      (congrArg₂ (· * · : EReal → EReal → EReal) rfl (congrArg₂ (· - · : EReal → EReal → EReal) (congrArg₂ (· - · : EReal → EReal → EReal) ?_ rfl)
        (congrArg₂ (· * · : EReal → EReal → EReal) ?_ rfl)))
    · refine (harg6.readAt_unread x4 _ _).trans (congrArg x4 ?_)
      funext a
      refine Fin.ext ?_
      fin_cases a
      · rfl
      · show 32 * n + 1 * ((y 1).val - 32 * n) = (y 1).val; omega
      · show 0 + 1 * (y 2).val = (y 2).val; omega
    · refine (harg7.readAt_unread x5 _ _).trans (congrArg x5 ?_)
      funext a
      refine Fin.ext ?_
      fin_cases a
      · rfl
      · show n + 1 * 0 = (y 1).val / 32; omega
      · show 0 + 1 * (y 2).val = (y 2).val; omega
    · refine (congrFun (View.readCov_eq_canon' arg14.view LD _) _).trans ((hD _).trans (congrArg D ?_))
      funext a
      refine Fin.ext ?_
      fin_cases a
      · show 32 * n + 1 * ((y 1).val - 32 * n) = (y 1).val; omega
      · show 0 + 1 * (y 2).val = (y 2).val; omega
    · refine (pay735_apply _ _ _).trans ?_
      refine congrArg₂ (· * · : EReal → EReal → EReal) ((harg8.readAt_unread x6 _ _).trans (congrArg x6 ?_)) rfl
      funext a
      refine Fin.ext ?_
      fin_cases a
      · rfl
      · show 32 * n + 1 * ((y 1).val - 32 * n) = (y 1).val; omega
      · show 0 + 1 * (y 2).val = (y 2).val; omega
  · exact (canon3_out inb _ L y (by omega)).trans (h y (by omega))

end Cert.DxIdeal.Gen

end
-- ==== Proof.Dx.Ideal.RunA.lean ====
/- The run of the whole body in case A of its conditionals. -/
module

public import proofs.«01_k».proof.Proof.Dx.Ideal.Cases

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_A (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : cond0_0 i) (hc1 : cond0_1 i) (hc2 : ¬cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) :
    Σ' (L10 : List (View.Piece (Elt F) S1x2880x512 .bf16)), Σ' (L11 : List (View.Piece (Elt F) S2880x128 .f32)), Σ' (LS0 : List (View.Piece (Elt F) S2880x512 .f32)), { LT1 : List (View.Piece (Elt F) S1920x512 .bf16) //
      ∀ (xi10 : Vec F S1x2880x512 .bf16) (xi11 : Vec F S2880x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, [], fun xi10 xi11 E K => ?run⟩
  case run =>
    simp only [cc0_dx_ln_eq_skeleton]; unfold cc0_dx_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _, _; isplitr; swap; · iexact HS1
    ipureintro; rfl

end Cert.DxIdeal.Gen

end
-- ==== Proof.Dx.Ideal.RunB.lean ====
/- The run of the whole body in case B of its conditionals. -/
module

public import proofs.«01_k».proof.Proof.Dx.Ideal.RunA

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each buffer it writes in this case, as pieces (last first), with the proof that the body,
    run on whole buffers, ends with the inputs as they were and each written buffer at its pieces. -/
noncomputable def kernelRun0_B (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : cond0_1 i) (hc2 : ¬cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (L10 : List (View.Piece (Elt F) S1x2880x512 .bf16)), Σ' (L11 : List (View.Piece (Elt F) S2880x128 .f32)), Σ' (LS0 : List (View.Piece (Elt F) S2880x512 .f32)), { LT1 : List (View.Piece (Elt F) S1920x512 .bf16) //
      ∀ (xi10 : Vec F S1x2880x512 .bf16) (xi11 : Vec F S2880x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ d, owns (c : Thread nD τ) arg15 fullShare d)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, [], fun xi10 xi11 E K => ?run⟩
  case run =>
    simp only [cc0_dx_ln_eq_skeleton]; unfold cc0_dx_ln_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _, _; isplitr; swap; · iexact HS1
    ipureintro; rfl

end Cert.DxIdeal.Gen

end
-- ==== Proof.Dx.Ideal.RunC.lean ====
/- The run of the whole body in case C of its conditionals. -/
module

public import proofs.«01_k».proof.Proof.Dx.Ideal.RunB

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1492000 in
/-- What the body's stores leave in each buffer it writes in this case, as pieces (last first), with the proof that the body,
    run on whole buffers, ends with the inputs as they were and each written buffer at its pieces. -/
noncomputable def kernelRun0_C (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : cond0_2 i) (hc3 : ¬cond0_3 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (L10 : List (View.Piece (Elt F) S1x2880x512 .bf16)), Σ' (L11 : List (View.Piece (Elt F) S2880x128 .f32)), Σ' (LS0 : List (View.Piece (Elt F) S2880x512 .f32)), { LT1 : List (View.Piece (Elt F) S1920x512 .bf16) //
      ∀ (xi10 : Vec F S1x2880x512 .bf16) (xi11 : Vec F S2880x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare xi10 ∗ owns (c : Thread nD τ) arg13 fullShare xi11 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨[], [], ?_, ?_, fun xi10 xi11 E K => ?run⟩
  case run =>
    simp only [cc0_dx_ln_eq_skeleton]; unfold cc0_dx_ln_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hfs0
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [HS0]; · iexists _; iexact HS0
    iexists _; iexact HS1

end Cert.DxIdeal.Gen

end
-- ==== Proof.Dx.Ideal.Acc.lean ====
module

public import proofs.«01_k».proof.Proof.Dx.Ideal.Chain
public import proofs.«01_k».proof.Proof.Dx.Ideal.RunA
public import proofs.«01_k».proof.Proof.Dx.Ideal.RunB
public import proofs.«01_k».proof.Proof.Dx.Ideal.RunC

/-! What the points before the last leave in the carried sum. -/

@[expose] public section

set_option maxRecDepth 16384

noncomputable section

namespace Cert.DxIdeal.Gen

open Idealize.ShloMosaic Idealize.ShloMosaic.TcCoe Idealize.SL.Sem

/-- A partial product with a block of the gradient at the activation, over 1920 columns of it. -/
def partA (x0 : Vec Ideal S2880x1920 .bf16) (x1 : Vec Ideal S1x512x1920 .bf16) (y : S2880x512.Idx) : EReal :=
  ∑ k : Fin 1920, x0 (ix2 (y 0) k) * x1 (ix3 0 (y 1) k)

/-- A partial product with a rebuilt block of cotangents, over its 1920 rows. -/
def partC (x0 : Vec Ideal S2880x1920 .bf16) (x2 : Vec Ideal S1x1920x512 .fp8e5m2) (x3 : Vec Ideal S1x1x64x512 .f32) (y : S2880x512.Idx) : EReal :=
  ∑ k : Fin 1920, x0 (ix2 (y 0) k) * rhs x2 x3 (ix2 k (y 1))

theorem pay1_apply (y : S2880x512.Idx) : k0_pay1 (F := Ideal) y = 0 := by
  unfold k0_pay1
  pointwise

theorem pay2_apply (acc : Vec Ideal S2880x512 .f32) (w : Vec Ideal S2880x1920 .bf16) (v : Vec Ideal S1x512x1920 .bf16) (y : S2880x512.Idx) :
    k0_pay2 (F := Ideal) acc w v y = (show EReal from acc y) + ∑ k : Fin 1920, (show EReal from w (ix2 (y 0) k)) * (show EReal from v (ix3 0 (y 1) k)) := by
  unfold k0_pay2
  pointwise [dot_S2880x1920_S512x1920_S2880x512_1_1_0_0_n_n]

theorem pay3_apply (acc : Vec Ideal S2880x512 .f32) (w : Vec Ideal S2880x1920 .bf16) (v : Vec Ideal S1920x512 .bf16) (y : S2880x512.Idx) :
    k0_pay3 (F := Ideal) acc w v y = (show EReal from acc y) + ∑ k : Fin 1920, (show EReal from w (ix2 (y 0) k)) * (show EReal from v (ix2 k (y 1))) := by
  unfold k0_pay3
  pointwise [dot_S2880x1920_S1920x512_S2880x512_1_0_0_1_n_n]

/-- A load of a whole buffer. -/
theorem ld2 {n p : ℕ} {e : EltTy} {arg : Memref sig .tc .vmem (⟨2, ![n, p]⟩ : Shape) e} (h : arg.IsWhole) (x : Vec Ideal (⟨2, ![n, p]⟩ : Shape) e)
    {ib : ∀ a, (![0, 0] : Fin 2 → ℕ) a + (⟨2, ![n, p]⟩ : Shape).size a ≤ (⟨2, ![n, p]⟩ : Shape).size a} (y : (⟨2, ![n, p]⟩ : Shape).Idx) :
    View.readAt (Elt Ideal) arg.view (Rect.unit (s := (⟨2, ![n, p]⟩ : Shape)) ![0, 0] (⟨2, ![n, p]⟩ : Shape).size ib).toLoadRect (h.unread x) y = x y := by
  refine (h.readAt_unread x _ _).trans (congrArg x ?_)
  funext a
  refine Fin.ext ?_
  fin_cases a
  · show 0 + 1 * (y 0).val = (y 0).val; omega
  · show 0 + 1 * (y 1).val = (y 1).val; omega

theorem ld3 {n p q : ℕ} {e : EltTy} {arg : Memref sig .tc .vmem (⟨3, ![n, p, q]⟩ : Shape) e} (h : arg.IsWhole) (x : Vec Ideal (⟨3, ![n, p, q]⟩ : Shape) e)
    {ib : ∀ a, (![0, 0, 0] : Fin 3 → ℕ) a + (⟨3, ![n, p, q]⟩ : Shape).size a ≤ (⟨3, ![n, p, q]⟩ : Shape).size a} (y : (⟨3, ![n, p, q]⟩ : Shape).Idx) :
    View.readAt (Elt Ideal) arg.view (Rect.unit (s := (⟨3, ![n, p, q]⟩ : Shape)) ![0, 0, 0] (⟨3, ![n, p, q]⟩ : Shape).size ib).toLoadRect (h.unread x) y = x y := by
  refine (h.readAt_unread x _ _).trans (congrArg x ?_)
  funext a
  refine Fin.ext ?_
  fin_cases a
  · show 0 + 1 * (y 0).val = (y 0).val; omega
  · show 0 + 1 * (y 1).val = (y 1).val; omega
  · show 0 + 1 * (y 2).val = (y 2).val; omega

set_option maxHeartbeats 4000000 in
theorem rhs_C (c : Dev nD) (arg4 : Memref sig .tc .vmem S1x1920x512 .fp8e5m2) (harg4 : arg4.IsWhole) (arg5 : Memref sig .tc .vmem S1x1x64x512 .f32) (harg5 : arg5.IsWhole)
    (x2 : Vec Ideal S1x1920x512 .fp8e5m2) (x3 : Vec Ideal S1x1x64x512 .f32) :
    RhsTo x2 x3 60 (kernelRun0_C.sl.HS1_60 (F := Ideal) c arg4 harg4 arg5 harg5 x2 x3) := by
  iterate 60 refine RhsTo.step ?_
  exact RhsTo.nil _ _

set_option maxHeartbeats 4000000 in
/-- What case A leaves in the carried sum. -/
theorem acc_A (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : cond0_0 i) (hc1 : cond0_1 i) (hc2 : ¬cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (y : S2880x512.Idx) :
    View.canon (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9).2.2.1 y = 0 + partA x0 x1 y := by
  refine (congrFun (View.canon_cons_unit_lit _ _ _ (by intro a; fin_cases a <;> rfl)) y).trans ?_
  refine (pay2_apply _ _ _ y).trans ?_
  refine congrArg₂ (· + · : EReal → EReal → EReal) ?_ (Finset.sum_congr rfl fun k _ => congrArg₂ (· * · : EReal → EReal → EReal) (ld2 harg2 x0 _) (ld3 harg3 x1 _))
  refine (congrFun (View.readCov_eq_canon' arg14.view _ _) _).trans ?_
  refine (congrFun (View.canon_cons_unit_lit _ _ _ (by intro a; fin_cases a <;> rfl)) _).trans ?_
  exact pay1_apply _

set_option maxHeartbeats 4000000 in
/-- What case B leaves in the carried sum. -/
theorem acc_B (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : cond0_1 i) (hc2 : ¬cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S2880x512.Idx) :
    View.canon (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1 y = (show EReal from xs0 y) + partA x0 x1 y := by
  refine (congrFun (View.canon_cons_unit_lit _ _ _ (by intro a; fin_cases a <;> rfl)) y).trans ?_
  refine (pay2_apply _ _ _ y).trans ?_
  exact congrArg₂ (· + · : EReal → EReal → EReal) (ld2 harg14 xs0 y) (Finset.sum_congr rfl fun k _ => congrArg₂ (· * · : EReal → EReal → EReal) (ld2 harg2 x0 _) (ld3 harg3 x1 _))

set_option maxHeartbeats 4000000 in
/-- What case C leaves in the carried sum. -/
theorem acc_C (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S2880x512.Idx) :
    View.canon (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1 y = (show EReal from xs0 y) + partC x0 x2 x3 y := by
  refine (congrFun (View.canon_cons_unit_lit _ _ _ (by intro a; fin_cases a <;> rfl)) y).trans ?_
  refine (pay3_apply _ _ _ y).trans ?_
  refine congrArg₂ (· + · : EReal → EReal → EReal) (ld2 harg14 xs0 y) (Finset.sum_congr rfl fun k _ => congrArg₂ (· * · : EReal → EReal → EReal) (ld2 harg2 x0 _) ?_)
  refine (congrFun (View.readCov_eq_canon' arg15.view _ _) _).trans ((rhs_C c arg4 harg4 arg5 harg5 x2 x3 _ ?_).trans (congrArg (rhs x2 x3) ?_))
  · show 0 + 1 * k.val < 32 * 60; omega
  · funext a
    refine Fin.ext ?_
    fin_cases a
    · show 0 + 1 * k.val = k.val; omega
    · show 0 + 1 * (y 1).val = (y 1).val; omega

theorem cover_A (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : cond0_0 i) (hc1 : cond0_1 i) (hc2 : ¬cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (y : S2880x512.Idx) :
    ∃ pc ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9).2.2.1, y ∈ pc.1.set :=
  View.cover_of_tiledL (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9).2.2.1 S2880x512.size (by sl_kernel_rfl) y

theorem cover_B (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : cond0_1 i) (hc2 : ¬cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S2880x512.Idx) :
    ∃ pc ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1, y ∈ pc.1.set :=
  View.cover_of_tiledL (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1 S2880x512.size (by sl_kernel_rfl) y

theorem cover_C (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : cond0_2 i) (hc3 : ¬cond0_3 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S2880x512.Idx) :
    ∃ pc ∈ (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1, y ∈ pc.1.set :=
  View.cover_of_tiledL (kernelRun0_C (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 x0 x1 x2 x3 x4 x5 x6 x7 x8 x9 xs0).2.2.1 S2880x512.size (by sl_kernel_rfl) y

end Cert.DxIdeal.Gen

end
-- ==== Proof.Dx.Ideal.Last.lean ====
module

public import proofs.«01_k».proof.Proof.Dx.Ideal.Chain

/-! The last point of a column tile: the sum finished, the norm's two means, and the result. -/

@[expose] public section

set_option maxRecDepth 16384

noncomputable section

namespace Cert.DxIdeal.Gen

open Idealize.ShloMosaic Idealize.ShloMosaic.TcCoe Idealize.SL.Sem

/-- The last partial product, over the last 960 rows of the contraction. -/
def partL (x0 : Vec Ideal S2880x1920 .bf16) (x2 : Vec Ideal S1x1920x512 .fp8e5m2) (x3 : Vec Ideal S1x1x64x512 .f32) (y : S2880x512.Idx) : EReal :=
  ∑ k : Fin 960, x0 (ix2 (y 0) ⟨k.val, by omega⟩) * rhs x2 x3 (ix2 ⟨k.val, by omega⟩ (y 1))

/-- The finished sum. -/
def accF (xs0 : Vec Ideal S2880x512 .f32) (x0 : Vec Ideal S2880x1920 .bf16) (x2 : Vec Ideal S1x1920x512 .fp8e5m2) (x3 : Vec Ideal S1x1x64x512 .f32) : Vec Ideal S2880x512 .f32 :=
  fun y => (show EReal from xs0 y) + partL x0 x2 x3 y

/-- The last addition to the sum, as the body computes it. -/
def payL (acc : Vec Ideal S2880x512 .f32) (w : Vec Ideal S2880x960 .bf16) (v : Vec Ideal S960x512 .bf16) : FVec Ideal S2880x512 .f32 :=
  have p : FVec Ideal S2880x512 .f32 := matmul (φ₁ := .bf16) (φ₂ := .bf16) dot_S2880x960_S960x512_S2880x512_1_0_0_1_n_n none w v (constant S2880x512 .f32 0x00000000#32)
  have s : FVec Ideal S2880x512 .f32 := addf acc p
  shapeCast S2880x512 s shapeCasts_S2880x512_S2880x512

theorem payL_apply (a : Vec Ideal S2880x512 .f32) (w : Vec Ideal S2880x960 .bf16) (v : Vec Ideal S960x512 .bf16) (y : S2880x512.Idx) :
    payL a w v y = (show EReal from a y) + ∑ k : Fin 960, (show EReal from w (ix2 (y 0) k)) * (show EReal from v (ix2 k (y 1))) := by
  unfold payL
  pointwise [dot_S2880x960_S960x512_S2880x512_1_0_0_1_n_n]

theorem accF_eq {x0 : Vec Ideal S2880x1920 .bf16} {x2 : Vec Ideal S1x1920x512 .fp8e5m2} {x3 : Vec Ideal S1x1x64x512 .f32} {xs0 : Vec Ideal S2880x512 .f32}
    {L : List (View.Piece (Elt Ideal) S1920x512 .bf16)} (hL : RhsTo x2 x3 30 L)
    {arg2 : Memref sig .tc .vmem S2880x1920 .bf16} {harg2 : arg2.IsWhole} {arg14 : Memref sig .tc .vmem S2880x512 .f32} {harg14 : arg14.IsWhole} {arg15 : Memref sig .tc .vmem S1920x512 .bf16}
    {i2 : ∀ a, (![0, 0] : Fin 2 → ℕ) a + S2880x960.size a ≤ S2880x1920.size a}
    {i14 : ∀ a, (![0, 0] : Fin 2 → ℕ) a + S2880x512.size a ≤ S2880x512.size a}
    {i15 : ∀ a, (![0, 0] : Fin 2 → ℕ) a + S960x512.size a ≤ S1920x512.size a} :
    payL (View.readAt (Elt Ideal) arg14.view (Rect.unit (s := S2880x512) ![0, 0] S2880x512.size i14).toLoadRect (harg14.unread xs0))
      (View.readAt (Elt Ideal) arg2.view (Rect.unit (s := S2880x1920) ![0, 0] S2880x960.size i2).toLoadRect (harg2.unread x0))
      (arg15.view.readCov L (Rect.unit (s := S1920x512) ![0, 0] S960x512.size i15).toLoadRect)
      = accF xs0 x0 x2 x3 := by
  funext y
  refine (payL_apply _ _ _ y).trans ?_
  refine congrArg₂ (· + · : EReal → EReal → EReal) ((harg14.readAt_unread xs0 _ _).trans (congrArg xs0 ?_)) (Finset.sum_congr rfl fun k _ =>
    congrArg₂ (· * · : EReal → EReal → EReal) ((harg2.readAt_unread x0 _ _).trans (congrArg x0 ?_)) ?_)
  · funext a
    refine Fin.ext ?_
    fin_cases a
    · show 0 + 1 * (y 0).val = (y 0).val; omega
    · show 0 + 1 * (y 1).val = (y 1).val; omega
  · funext a
    refine Fin.ext ?_
    fin_cases a
    · show 0 + 1 * (y 0).val = (y 0).val; omega
    · show 0 + 1 * k.val = k.val; omega
  · refine (congrFun (View.readCov_eq_canon' arg15.view L _) _).trans ((hL _ ?_).trans (congrArg (rhs x2 x3) ?_))
    · show 0 + 1 * k.val < 32 * 30; omega
    · funext a
      refine Fin.ext ?_
      fin_cases a
      · show 0 + 1 * k.val = k.val; omega
      · show 0 + 1 * (y 1).val = (y 1).val; omega

/-- A block of one row, as a vector. -/
def rowOf (x : Vec Ideal S1x1x512 .f32) : Vec Ideal S1x512 .f32 := fun i => x (ix3 0 0 (i 1))

theorem rowOf_eq {x : Vec Ideal S1x1x512 .f32} {arg : Memref sig .tc .vmem S1x1x512 .f32} {h : arg.IsWhole}
    {ib : ∀ a, (![0, 0, 0] : Fin 3 → ℕ) a + S1x1x512.size a ≤ S1x1x512.size a} :
    (shapeCast S1x512 (View.readAt (Elt Ideal) arg.view (Rect.unit (s := S1x1x512) ![0, 0, 0] S1x1x512.size ib).toLoadRect (h.unread x)) shapeCasts_S1x1x512_S1x512 : Vec Ideal S1x512 .f32) = rowOf x := by
  have e : ∀ (a : Vec Ideal S1x1x512 .f32) (y : S1x512.Idx), shapeCast S1x512 a shapeCasts_S1x1x512_S1x512 y = a (ix3 0 0 (y 1)) := by
    intro a y
    pointwise
  funext y
  refine (e _ y).trans ((h.readAt_unread x _ _).trans (congrArg x ?_))
  funext a
  refine Fin.ext ?_
  fin_cases a
  · rfl
  · rfl
  · show 0 + 1 * (y 1).val = (y 1).val; omega

/-- The column's mean of the scaled gradient. -/
def mean1 (A : Vec Ideal S2880x512 .f32) (g : Vec Ideal S2880x1 .f32) (j : Fin 512) : EReal := (∑ n : Fin 2880, dxhF A g (ix2 n j)) * invD

/-- The column's mean of the scaled gradient times the normalised input. -/
def mean2 (A : Vec Ideal S2880x512 .f32) (g : Vec Ideal S2880x1 .f32) (x6 : Vec Ideal S1x2880x512 .fp8e4m3) (x7 : Vec Ideal S1x1x512 .f32) (j : Fin 512) : EReal :=
  (∑ n : Fin 2880, dxhF A g (ix2 n j) * xhF x6 (rowOf x7) (ix2 n j)) * invD

/-- The result's entry: the residual's cotangent plus the norm's backward. -/
def fin (A : Vec Ideal S2880x512 .f32) (x4 : Vec Ideal S1x2880x512 .fp8e5m2) (x5 : Vec Ideal S1x90x512 .f32) (x6 : Vec Ideal S1x2880x512 .fp8e4m3)
    (x7 x8 : Vec Ideal S1x1x512 .f32) (x9 : Vec Ideal S2880x1 .f32) (y : S1x2880x512.Idx) : EReal :=
  (show EReal from x4 (ix3 0 (y 1) (y 2))) * (show EReal from x5 (ix3 0 ⟨(y 1).val / 32, Nat.div_lt_of_lt_mul (y 1).isLt⟩ (y 2)))
    + (show EReal from x8 (ix3 0 0 (y 2))) * ((dxhF A x9 (ix2 (y 1) (y 2)) - mean1 A x9 (y 2)) - xhF x6 (rowOf x7) (ix2 (y 1) (y 2)) * mean2 A x9 x6 x7 (y 2))

theorem outF_eq_fin {A A' : Vec Ideal S2880x512 .f32} (hA : A' = A) {x4 : Vec Ideal S1x2880x512 .fp8e5m2} {x5 : Vec Ideal S1x90x512 .f32} {x6 : Vec Ideal S1x2880x512 .fp8e4m3}
    {x7 x8 : Vec Ideal S1x1x512 .f32} {x9 : Vec Ideal S2880x1 .f32} {xv rs M1 M2 : Vec Ideal S1x512 .f32} (hx : xv = rowOf x7) (hr : rs = rowOf x8)
    (h1 : ∀ j, M1 (ix2 0 j) = (∑ n : Fin 2880, dxhF A' x9 (ix2 n j)) * invD)
    (h2 : ∀ j, M2 (ix2 0 j) = (∑ n : Fin 2880, (fun y => dxhF A' x9 y * xhF x6 xv y) (ix2 n j)) * invD) (y : S1x2880x512.Idx) :
    outF (dxhF A' x9) x4 x5 x6 xv rs M1 M2 y = fin A x4 x5 x6 x7 x8 x9 y := by
  subst hA hx hr
  unfold outF fin
  refine congrArg₂ (· + · : EReal → EReal → EReal) rfl (congrArg₂ (· * · : EReal → EReal → EReal) rfl (congrArg₂ (· - · : EReal → EReal → EReal)
    (congrArg₂ (· - · : EReal → EReal → EReal) rfl (h1 _)) (congrArg₂ (· * · : EReal → EReal → EReal) rfl (h2 _))))

end Cert.DxIdeal.Gen

end
-- ==== Proof.Dx.Spec.lean ====
module

public import Idealize.ShloMosaic.PureOps.Ideal

/-! The result of `dx` at an entry, on the exact numbers. -/

@[expose] public section

noncomputable section

namespace Cert.DxSpec

/-- The mean's factor. -/
def inv : EReal := ((1 / 2880 : ℝ) : EReal)

/-- A row of the input's gradient before the norm: the gradient at the activation through the input weights, and the
    cotangents of the attention's inputs through theirs (the columns of `w` after the first 7680). -/
def dh (w : Fin 2880 → Fin 17280 → EReal) (da : Fin 7680 → EReal) (q : Fin 8640 → EReal) (d : Fin 2880) : EReal :=
  (∑ f : Fin 7680, w d ⟨f.val, by omega⟩ * da f) + ∑ n : Fin 8640, w d ⟨7680 + n.val, by omega⟩ * q n

/-- The norm's backward on a row, with the residual's cotangent `dy`. -/
def row (h g x : Fin 2880 → EReal) (dy r : EReal) (d : Fin 2880) : EReal :=
  dy + r * ((h d * g d - (∑ n : Fin 2880, h n * g n) * inv) - x d * ((∑ n : Fin 2880, h n * g n * x n) * inv))

end Cert.DxSpec

end
-- ==== Proof.Dx.Ideal.Value.lean ====
module

public import proofs.«01_k».proof.Proof.Dx.Ideal.Acc
public import proofs.«01_k».proof.Proof.Dx.Ideal.Last
public import proofs.«01_k».proof.Proof.Dx.Spec
public import Idealize.ShloMosaic.Lib.Pipeline.Value
public import Idealize.ShloMosaic.Lib.Pipeline.ValueKit
public import Idealize.ShloMosaic.Lib.Pointwise
public import Idealize.ShloMosaic.Lib.KernelVsHost
public import Idealize.ShloMosaic.Lib.StableHlo.Run

/-! The blocks that the points read, what the carried sum holds, and the result. -/

@[expose] public section

set_option maxRecDepth 16384

noncomputable section

namespace Cert.DxIdeal.Gen

open Idealize.ShloMosaic Idealize.ShloMosaic.TcCoe Idealize.SL.Sem

variable (m : (ℓ : Loc nD τ sig) → Buf (Elt Ideal) ℓ)

theorem invD_eq : invD = DxSpec.inv :=
  IdealRules.named_const.ideal_named_scalar _ _ _ _ rfl

/-! ## The result's formula at the launched arguments -/

def wv (c : Dev nD) (d : Fin 2880) (n : Fin 17280) : EReal := (m ((c : Thread nD τ).loc main_arg0) : Vec Ideal S2880x17280 .bf16) (ix2 d n)
def dav (c : Dev nD) (b : Fin 12) (s : Fin 2048) (f : Fin 7680) : EReal := (m ((c : Thread nD τ).loc main_arg1) : Vec Ideal S12x2048x7680 .bf16) (ix3 b s f)
/-- A cotangent: its code times its block's scale. -/
def qv (c : Dev nD) (b : Fin 12) (s : Fin 2048) (n : Fin 8640) : EReal :=
  (show EReal from (m ((c : Thread nD τ).loc main_arg2) : Vec Ideal S12x2048x3x18x160 .fp8e5m2) (ix5 b s ⟨n.val / 2880, by omega⟩ ⟨n.val / 160 % 18, by omega⟩ ⟨n.val % 160, by omega⟩))
    * (show EReal from (m ((c : Thread nD τ).loc main_arg3) : Vec Ideal S12x2048x3x18x5 .f32) (ix5 b s ⟨n.val / 2880, by omega⟩ ⟨n.val / 160 % 18, by omega⟩ ⟨n.val / 32 % 5, by omega⟩))
/-- An entry of the result. -/
def gv (c : Dev nD) (b : Fin 12) (s : Fin 2048) (d : Fin 2880) : EReal :=
  DxSpec.row (DxSpec.dh (wv m c) (dav m c b s) (qv m c b s)) (fun n => (m ((c : Thread nD τ).loc main_arg9) : Vec Ideal S2880 .f32) (ix1 n))
    (fun n => (show EReal from (m ((c : Thread nD τ).loc main_arg6) : Vec Ideal S12x2048x2880 .fp8e4m3) (ix3 b s n)) * (show EReal from (m ((c : Thread nD τ).loc main_arg7) : Vec Ideal S12x2048 .f32) (ix2 b s)))
    ((show EReal from (m ((c : Thread nD τ).loc main_arg4) : Vec Ideal S12x2048x2880 .fp8e5m2) (ix3 b s d)) * (show EReal from (m ((c : Thread nD τ).loc main_arg5) : Vec Ideal S12x2048x90 .f32) (ix3 b s ⟨d.val / 32, by omega⟩)))
    ((m ((c : Thread nD τ).loc main_arg8) : Vec Ideal S12x2048 .f32) (ix2 b s)) d
/-- A product of the contraction, for any number (0 past the end). -/
def pr (c : Dev nD) (b : Fin 12) (s : Fin 2048) (d : Fin 2880) (n : ℕ) : EReal :=
  if h : n < 7680 then wv m c d ⟨n, by omega⟩ * dav m c b s ⟨n, h⟩
  else if h' : n < 16320 then wv m c d ⟨n, by omega⟩ * qv m c b s ⟨n - 7680, by omega⟩
  else 0

/-- A point's batch, and the row of it that a column of the point's tile is. -/
def bt (t : ℕ) : Fin 12 := ⟨t / 36 % 12, Nat.mod_lt _ (by decide)⟩
def ct (t : ℕ) (j : Fin 512) : Fin 2048 := ⟨512 * (t / 9 % 4) + j.val, by omega⟩

theorem lt_N (t : Fin cfg0.N) : t.val < 432 := lt_of_lt_of_eq t.isLt (show cfg0.N = 432 from N_0)

/-! ## The arrays as the grid finds them -/

set_option maxHeartbeats 1000000 in
theorem V0 (c : Dev nD) : (V m c main_v0 : Vec Ideal S12x2880x2048 .fp8e5m2) = transpose S12x2880x2048 [0, 2, 1] (m ((c : Thread nD τ).loc main_arg4) : Vec Ideal S12x2048x2880 .fp8e5m2) transposes_S12x2048x2880_S12x2880x2048_0_2_1 := by
  unfold V hostOps0 hostOps0_1 hostOps0_2 hostOps0_3 hostOps0_4
  simp only [List.flatten_cons, List.flatten_nil, List.append_nil, List.cons_append, List.nil_append]
  after_results

set_option maxHeartbeats 1000000 in
theorem V1 (c : Dev nD) : (V m c main_v1 : Vec Ideal S12x90x2048 .f32) = transpose S12x90x2048 [0, 2, 1] (m ((c : Thread nD τ).loc main_arg5) : Vec Ideal S12x2048x90 .f32) transposes_S12x2048x90_S12x90x2048_0_2_1 := by
  unfold V hostOps0 hostOps0_1 hostOps0_2 hostOps0_3 hostOps0_4
  simp only [List.flatten_cons, List.flatten_nil, List.append_nil, List.cons_append, List.nil_append]
  after_results

set_option maxHeartbeats 1000000 in
theorem V3 (c : Dev nD) : (V m c main_v3 : Vec Ideal S12x8640x2048 .fp8e5m2) = shapeCast S12x8640x2048 (transpose S12x3x18x160x2048 [0, 2, 3, 4, 1] (m ((c : Thread nD τ).loc main_arg2) : Vec Ideal S12x2048x3x18x160 .fp8e5m2) transposes_S12x2048x3x18x160_S12x3x18x160x2048_0_2_3_4_1) shapeCasts_S12x3x18x160x2048_S12x8640x2048 := by
  unfold V hostOps0 hostOps0_1 hostOps0_2 hostOps0_3 hostOps0_4
  simp only [List.flatten_cons, List.flatten_nil, List.append_nil, List.cons_append, List.nil_append]
  after_results
  rfl
set_option maxHeartbeats 1000000 in
theorem V6 (c : Dev nD) : (V m c main_v6 : Vec Ideal S12x2880x2048 .fp8e4m3) = transpose S12x2880x2048 [0, 2, 1] (m ((c : Thread nD τ).loc main_arg6) : Vec Ideal S12x2048x2880 .fp8e4m3) transposes_S12x2048x2880_S12x2880x2048_0_2_1 := by
  unfold V hostOps0 hostOps0_1 hostOps0_2 hostOps0_3 hostOps0_4
  simp only [List.flatten_cons, List.flatten_nil, List.append_nil, List.cons_append, List.nil_append]
  after_results

set_option maxHeartbeats 1000000 in
theorem V10 (c : Dev nD) : (V m c main_v10 : Vec Ideal S12x1x2048 .f32) = shapeCast S12x1x2048 (m ((c : Thread nD τ).loc main_arg7) : Vec Ideal S12x2048 .f32) shapeCasts_S12x2048_S12x1x2048 := by
  unfold V hostOps0 hostOps0_1 hostOps0_2 hostOps0_3 hostOps0_4
  simp only [List.flatten_cons, List.flatten_nil, List.append_nil, List.cons_append, List.nil_append]
  after_results
  rfl
set_option maxHeartbeats 1000000 in
theorem V11 (c : Dev nD) : (V m c main_v11 : Vec Ideal S12x1x2048 .f32) = shapeCast S12x1x2048 (m ((c : Thread nD τ).loc main_arg8) : Vec Ideal S12x2048 .f32) shapeCasts_S12x2048_S12x1x2048 := by
  unfold V hostOps0 hostOps0_1 hostOps0_2 hostOps0_3 hostOps0_4
  simp only [List.flatten_cons, List.flatten_nil, List.append_nil, List.cons_append, List.nil_append]
  after_results
  rfl
set_option maxHeartbeats 1000000 in
theorem V12 (c : Dev nD) : (V m c main_v12 : Vec Ideal S2880x1 .f32) = shapeCast S2880x1 (m ((c : Thread nD τ).loc main_arg9) : Vec Ideal S2880 .f32) shapeCasts_S2880_S2880x1 := by
  unfold V hostOps0 hostOps0_1 hostOps0_2 hostOps0_3 hostOps0_4
  simp only [List.flatten_cons, List.flatten_nil, List.append_nil, List.cons_append, List.nil_append]
  after_results
  rfl
/-- The scales, padded to blocks of rows. -/
def sc9 (u v : Vec Ideal S_ .f32) (a : Vec Ideal S12x2048x3x18x5 .f32) : Vec Ideal S12x5x64x2048 .f32 :=
  pad S12x5x64x2048 ![0, 0, 0, 0] ![0, 0, 4, 0] ![0, 0, 0, 0]
    (shapeCast S12x5x60x2048 (pad S12x300x2048 ![0, 0, 0] ![0, 30, 0] ![0, 0, 0] (shapeCast S12x270x2048 (transpose S12x3x18x5x2048 [0, 2, 3, 4, 1] a transposes_S12x2048x3x18x5_S12x3x18x5x2048_0_2_3_4_1) shapeCasts_S12x3x18x5x2048_S12x270x2048) u pads_S12x270x2048_S12x300x2048_000_0300_000 h_S_)
      shapeCasts_S12x300x2048_S12x5x60x2048) v pads_S12x5x60x2048_S12x5x64x2048_000_000_040_000 h_S_

set_option maxHeartbeats 1000000 in
theorem V9 (c : Dev nD) : ∃ u v, (V m c main_v9 : Vec Ideal S12x5x64x2048 .f32) = sc9 u v (m ((c : Thread nD τ).loc main_arg3) : Vec Ideal S12x2048x3x18x5 .f32) := by
  unfold V hostOps0 hostOps0_1 hostOps0_2 hostOps0_3 hostOps0_4
  simp only [List.flatten_cons, List.flatten_nil, List.append_nil, List.cons_append, List.nil_append]
  after_results
  exact ⟨_, _, rfl⟩

theorem cast60 (x : Vec Ideal S12x300x2048 .f32) (b : Fin 12) (k : Fin 5) (r : Fin 60) (s : Fin 2048) :
    shapeCast S12x5x60x2048 x shapeCasts_S12x300x2048_S12x5x60x2048 (ix4 b k r s) = x (ix3 b ⟨60 * k.val + r.val, by omega⟩ s) := by
  unfold shapeCast
  refine congrArg _ (Shape.reshapeEquiv_eq_of_rowMajor _ ?_)
  refine (Shape.rowMajor_val_three (d := ![12, 300, 2048]) _).trans (Eq.trans ?_ (Shape.rowMajor_val_four (d := ![12, 5, 60, 2048]) _).symm)
  show (b.val * 300 + (60 * k.val + r.val)) * 2048 + s.val = ((b.val * 5 + k.val) * 60 + r.val) * 2048 + s.val
  omega

theorem cast270 (a : Vec Ideal S12x2048x3x18x5 .f32) (b : Fin 12) (p : Fin 270) (s : Fin 2048) :
    shapeCast S12x270x2048 (transpose S12x3x18x5x2048 [0, 2, 3, 4, 1] a transposes_S12x2048x3x18x5_S12x3x18x5x2048_0_2_3_4_1) shapeCasts_S12x3x18x5x2048_S12x270x2048 (ix3 b p s)
      = a (ix5 b s ⟨p.val / 90, by omega⟩ ⟨p.val / 5 % 18, by omega⟩ ⟨p.val % 5, by omega⟩) := by
  pointwise

theorem sc9_apply (u v : Vec Ideal S_ .f32) (a : Vec Ideal S12x2048x3x18x5 .f32) (b : Fin 12) (k : Fin 5) (r : Fin 64) (s : Fin 2048) (p : Fin 270) (hr : r.val < 60) (hp : p.val = 60 * k.val + r.val) :
    sc9 u v a (ix4 b k r s) = a (ix5 b s ⟨p.val / 90, by omega⟩ ⟨p.val / 5 % 18, by omega⟩ ⟨p.val % 5, by omega⟩) := by
  unfold sc9
  refine (pad_apply_of_inside _ _ _ _ _ _ _ _ (ix4 b k ⟨r.val, hr⟩ s) ?_).trans ((cast60 _ b k ⟨r.val, hr⟩ s).trans ((pad_apply_of_inside _ _ _ _ _ _ _ _ (ix3 b p s) ?_).trans (cast270 a b p s)))
  · intro a
    match a with
    | ⟨0, _⟩ => show b.val = 0 + b.val * (0 + 1); omega
    | ⟨1, _⟩ => show k.val = 0 + k.val * (0 + 1); omega
    | ⟨2, _⟩ => show r.val = 0 + r.val * (0 + 1); omega
    | ⟨3, _⟩ => show s.val = 0 + s.val * (0 + 1); omega
  · intro a
    match a with
    | ⟨0, _⟩ => show b.val = 0 + b.val * (0 + 1); omega
    | ⟨1, _⟩ => show 60 * k.val + r.val = 0 + p.val * (0 + 1); omega
    | ⟨2, _⟩ => show s.val = 0 + s.val * (0 + 1); omega

theorem arr3 (c : Dev nD) (b : Fin 12) (n : Fin 8640) (k : Fin 2048) :
    (V m c main_v3 : Vec Ideal S12x8640x2048 .fp8e5m2) (ix3 b n k) = (m ((c : Thread nD τ).loc main_arg2) : Vec Ideal S12x2048x3x18x160 .fp8e5m2) (ix5 b k ⟨n.val / 2880, by omega⟩ ⟨n.val / 160 % 18, by omega⟩ ⟨n.val % 160, by omega⟩) := by
  rw [V3]
  pointwise

/-! ## The blocks -/

theorem idx0 : ∀ t : Fin cfg0.N, win0_0.index t (0 : Fin 2) = 0 ∧ win0_0.index t (1 : Fin 2) = t.val % 9 :=
  (by decide +kernel : ∀ t : Fin grid0.N, _)
theorem idx1 : ∀ t : Fin cfg0.N, win0_1.index t (0 : Fin 3) = t.val / 36 ∧ win0_1.index t (1 : Fin 3) = t.val / 9 % 4 ∧ win0_1.index t (2 : Fin 3) = min (t.val % 9) 3 :=
  (by decide +kernel : ∀ t : Fin grid0.N, _)
theorem idx2 : ∀ t : Fin cfg0.N, win0_2.index t (0 : Fin 3) = t.val / 36 ∧ win0_2.index t (1 : Fin 3) = t.val % 9 - 4 ∧ win0_2.index t (2 : Fin 3) = t.val / 9 % 4 :=
  (by decide +kernel : ∀ t : Fin grid0.N, _)
theorem idx3 : ∀ t : Fin cfg0.N, win0_3.index t (0 : Fin 4) = t.val / 36 ∧ win0_3.index t (1 : Fin 4) = t.val % 9 - 4 ∧ win0_3.index t (2 : Fin 4) = 0 ∧ win0_3.index t (3 : Fin 4) = t.val / 9 % 4 :=
  (by decide +kernel : ∀ t : Fin grid0.N, _)
theorem idx4 : ∀ t : Fin cfg0.N, win0_4.index t (0 : Fin 3) = t.val / 36 ∧ win0_4.index t (1 : Fin 3) = 0 ∧ win0_4.index t (2 : Fin 3) = t.val / 9 % 4 :=
  (by decide +kernel : ∀ t : Fin grid0.N, _)
theorem idx5 : ∀ t : Fin cfg0.N, win0_5.index t (0 : Fin 3) = t.val / 36 ∧ win0_5.index t (1 : Fin 3) = 0 ∧ win0_5.index t (2 : Fin 3) = t.val / 9 % 4 :=
  (by decide +kernel : ∀ t : Fin grid0.N, _)
theorem idx6 : ∀ t : Fin cfg0.N, win0_6.index t (0 : Fin 3) = t.val / 36 ∧ win0_6.index t (1 : Fin 3) = 0 ∧ win0_6.index t (2 : Fin 3) = t.val / 9 % 4 :=
  (by decide +kernel : ∀ t : Fin grid0.N, _)
theorem idx7 : ∀ t : Fin cfg0.N, win0_7.index t (0 : Fin 3) = t.val / 36 ∧ win0_7.index t (1 : Fin 3) = 0 ∧ win0_7.index t (2 : Fin 3) = t.val / 9 % 4 :=
  (by decide +kernel : ∀ t : Fin grid0.N, _)
theorem idx8 : ∀ t : Fin cfg0.N, win0_8.index t (0 : Fin 3) = t.val / 36 ∧ win0_8.index t (1 : Fin 3) = 0 ∧ win0_8.index t (2 : Fin 3) = t.val / 9 % 4 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)

theorem blk0 (c : Dev nD) (t : Fin cfg0.N) (d : Fin 2880) (k : Fin 1920) (n : Fin 17280) (hn : n.val = 1920 * (t.val % 9) + k.val) :
    (iblk m c 0 t : Vec Ideal S2880x1920 .bf16) (ix2 d k) = wv m c d n := by
  obtain ⟨e0, e1⟩ := idx0 t
  have hN := lt_N t
  have h : (iblk m c 0 t : Vec Ideal S2880x1920 .bf16) (ix2 d k) = (V m c main_arg0 : Vec Ideal S2880x17280 .bf16) (ix2 d n) := by
    blk_ext [iblk, e0, e1, bt, ct]
  exact h.trans (congrFun (V_main_arg0 m c) _)

theorem blk1 (c : Dev nD) (t : Fin cfg0.N) (j : Fin 512) (k : Fin 1920) (n : Fin 7680) (h3 : t.val % 9 ≤ 3) (hn : n.val = 1920 * (t.val % 9) + k.val) :
    (iblk m c 1 t : Vec Ideal S1x512x1920 .bf16) (ix3 0 j k) = dav m c (bt t.val) (ct t.val j) n := by
  obtain ⟨e0, e1, e2⟩ := idx1 t
  have hN := lt_N t
  have h : (iblk m c 1 t : Vec Ideal S1x512x1920 .bf16) (ix3 0 j k) = (V m c main_arg1 : Vec Ideal S12x2048x7680 .bf16) (ix3 (bt t.val) (ct t.val j) n) := by
    blk_ext [iblk, e0, e1, e2, bt, ct]
  exact h.trans (congrFun (V_main_arg1 m c) _)

/-- The part of a block of cotangents that lies inside the array. -/
theorem xs2 : ∀ t : Fin cfg0.N, win0_2.xsize (grid0.coords t) (0 : Fin 3) = 1 ∧ win0_2.xsize (grid0.coords t) (1 : Fin 3) = min 1920 (8640 - 1920 * (t.val % 9 - 4)) ∧ win0_2.xsize (grid0.coords t) (2 : Fin 3) = 512 :=
  (by decide +kernel : ∀ t : Fin grid0.N, _)

/-- A staging buffer after a fetch, on a row inside the array. -/
theorem fill2 (c : Dev nD) (t : Fin cfg0.N) (r : Fin 1920) (j : Fin 512) (d : S1x1920x512.Idx → Elt Ideal .fp8e5m2) (n : Fin 8640) (hn : n.val = 1920 * (t.val % 9 - 4) + r.val) :
    ((cfg0.win 2).fill (grid0.coords t) d (iblk m c 2 t) : Vec Ideal S1x1920x512 .fp8e5m2) (ix3 0 r j) = (V m c main_v3 : Vec Ideal S12x8640x2048 .fp8e5m2) (ix3 (bt t.val) n (ct t.val j)) := by
  obtain ⟨e0, e1, e2⟩ := idx2 t
  obtain ⟨s0, s1, s2⟩ := xs2 t
  have hN := lt_N t
  have hm : (cfg0.win 2).moved (grid0.coords t) (ix3 0 r j) = true := by
    rw [Pipeline.Window.moved_iff]
    intro a
    match a with
    | ⟨0, _⟩ => exact Nat.lt_of_lt_of_eq (show (0 : ℕ) < 1 by omega) s0.symm
    | ⟨1, _⟩ => exact Nat.lt_of_lt_of_eq (show r.val < _ by have := r.isLt; have := n.isLt; omega) s1.symm
    | ⟨2, _⟩ => exact Nat.lt_of_lt_of_eq j.isLt s2.symm
  unfold Pipeline.Window.fill
  rw [dif_pos hm]
  unfold iblk
  refine congrArg (V m c main_v3) ?_
  funext a; apply Fin.ext
  match a with
  | ⟨0, _⟩ => show win0_2.index t (0 : Fin 3) * 1 + 1 * 0 = t.val / 36 % 12; omega
  | ⟨1, _⟩ => show win0_2.index t (1 : Fin 3) * 1920 + 1 * r.val = n.val; omega
  | ⟨2, _⟩ => show win0_2.index t (2 : Fin 3) * 512 + 1 * j.val = 512 * (t.val / 9 % 4) + j.val; omega

theorem blk3 (c : Dev nD) (t : Fin cfg0.N) (r : Fin 64) (j : Fin 512) (p : Fin 270) (hr : r.val < 60) (hp : p.val = 60 * (t.val % 9 - 4) + r.val) :
    (iblk m c 3 t : Vec Ideal S1x1x64x512 .f32) (ix4 0 0 r j) = (m ((c : Thread nD τ).loc main_arg3) : Vec Ideal S12x2048x3x18x5 .f32) (ix5 (bt t.val) (ct t.val j) ⟨p.val / 90, by omega⟩ ⟨p.val / 5 % 18, by omega⟩ ⟨p.val % 5, by omega⟩) := by
  obtain ⟨e0, e1, e2, e3⟩ := idx3 t
  have hN := lt_N t
  have h : (iblk m c 3 t : Vec Ideal S1x1x64x512 .f32) (ix4 0 0 r j) = (V m c main_v9 : Vec Ideal S12x5x64x2048 .f32) (ix4 (bt t.val) ⟨t.val % 9 - 4, by omega⟩ r (ct t.val j)) := by
    blk_ext [iblk, e0, e1, e2, e3, bt, ct]
  obtain ⟨u, v, e⟩ := V9 m c
  rw [h, e]
  exact sc9_apply u v _ _ _ r _ p hr hp

theorem blk4 (c : Dev nD) (t : Fin cfg0.N) (r : Fin 2880) (j : Fin 512) :
    (iblk m c 4 t : Vec Ideal S1x2880x512 .fp8e5m2) (ix3 0 r j) = (m ((c : Thread nD τ).loc main_arg4) : Vec Ideal S12x2048x2880 .fp8e5m2) (ix3 (bt t.val) (ct t.val j) r) := by
  obtain ⟨e0, e1, e2⟩ := idx4 t
  have hN := lt_N t
  have h : (iblk m c 4 t : Vec Ideal S1x2880x512 .fp8e5m2) (ix3 0 r j) = (V m c main_v0 : Vec Ideal S12x2880x2048 .fp8e5m2) (ix3 (bt t.val) r (ct t.val j)) := by
    blk_ext [iblk, e0, e1, e2, bt, ct]
  rw [h, V0]
  pointwise

theorem blk5 (c : Dev nD) (t : Fin cfg0.N) (r : Fin 90) (j : Fin 512) :
    (iblk m c 5 t : Vec Ideal S1x90x512 .f32) (ix3 0 r j) = (m ((c : Thread nD τ).loc main_arg5) : Vec Ideal S12x2048x90 .f32) (ix3 (bt t.val) (ct t.val j) r) := by
  obtain ⟨e0, e1, e2⟩ := idx5 t
  have hN := lt_N t
  have h : (iblk m c 5 t : Vec Ideal S1x90x512 .f32) (ix3 0 r j) = (V m c main_v1 : Vec Ideal S12x90x2048 .f32) (ix3 (bt t.val) r (ct t.val j)) := by
    blk_ext [iblk, e0, e1, e2, bt, ct]
  rw [h, V1]
  pointwise

theorem blk6 (c : Dev nD) (t : Fin cfg0.N) (r : Fin 2880) (j : Fin 512) :
    (iblk m c 6 t : Vec Ideal S1x2880x512 .fp8e4m3) (ix3 0 r j) = (m ((c : Thread nD τ).loc main_arg6) : Vec Ideal S12x2048x2880 .fp8e4m3) (ix3 (bt t.val) (ct t.val j) r) := by
  obtain ⟨e0, e1, e2⟩ := idx6 t
  have hN := lt_N t
  have h : (iblk m c 6 t : Vec Ideal S1x2880x512 .fp8e4m3) (ix3 0 r j) = (V m c main_v6 : Vec Ideal S12x2880x2048 .fp8e4m3) (ix3 (bt t.val) r (ct t.val j)) := by
    blk_ext [iblk, e0, e1, e2, bt, ct]
  rw [h, V6]
  pointwise

theorem blk7 (c : Dev nD) (t : Fin cfg0.N) (j : Fin 512) :
    (iblk m c 7 t : Vec Ideal S1x1x512 .f32) (ix3 0 0 j) = (m ((c : Thread nD τ).loc main_arg7) : Vec Ideal S12x2048 .f32) (ix2 (bt t.val) (ct t.val j)) := by
  obtain ⟨e0, e1, e2⟩ := idx7 t
  have hN := lt_N t
  have h : (iblk m c 7 t : Vec Ideal S1x1x512 .f32) (ix3 0 0 j) = (V m c main_v10 : Vec Ideal S12x1x2048 .f32) (ix3 (bt t.val) 0 (ct t.val j)) := by
    blk_ext [iblk, e0, e1, e2, bt, ct]
  rw [h, V10]
  unfold shapeCast
  refine congrArg _ (Shape.reshapeEquiv_eq_of_rowMajor _ ?_)
  refine (Shape.rowMajor_val_two (d := ![12, 2048]) _).trans (Eq.trans ?_ (Shape.rowMajor_val_three (d := ![12, 1, 2048]) _).symm)
  show (bt t.val).val * 2048 + (ct t.val j).val = ((bt t.val).val * 1 + 0) * 2048 + (ct t.val j).val
  omega

theorem blk8 (c : Dev nD) (t : Fin cfg0.N) (j : Fin 512) :
    (iblk m c 8 t : Vec Ideal S1x1x512 .f32) (ix3 0 0 j) = (m ((c : Thread nD τ).loc main_arg8) : Vec Ideal S12x2048 .f32) (ix2 (bt t.val) (ct t.val j)) := by
  obtain ⟨e0, e1, e2⟩ := idx8 t
  have hN := lt_N t
  have h : (iblk m c 8 t : Vec Ideal S1x1x512 .f32) (ix3 0 0 j) = (V m c main_v11 : Vec Ideal S12x1x2048 .f32) (ix3 (bt t.val) 0 (ct t.val j)) := by
    blk_ext [iblk, e0, e1, e2, bt, ct]
  rw [h, V11]
  unfold shapeCast
  refine congrArg _ (Shape.reshapeEquiv_eq_of_rowMajor _ ?_)
  refine (Shape.rowMajor_val_two (d := ![12, 2048]) _).trans (Eq.trans ?_ (Shape.rowMajor_val_three (d := ![12, 1, 2048]) _).symm)
  show (bt t.val).val * 2048 + (ct t.val j).val = ((bt t.val).val * 1 + 0) * 2048 + (ct t.val j).val
  omega

theorem blk9 (c : Dev nD) (t : Fin cfg0.N) (d : Fin 2880) :
    (iblk m c 9 t : Vec Ideal S2880x1 .f32) (ix2 d 0) = (m ((c : Thread nD τ).loc main_arg9) : Vec Ideal S2880 .f32) (ix1 d) := by
  obtain ⟨e0, e1⟩ := idx9 t
  have hN := lt_N t
  have h : (iblk m c 9 t : Vec Ideal S2880x1 .f32) (ix2 d 0) = (V m c main_v12 : Vec Ideal S2880x1 .f32) (ix2 d 0) := by
    blk_ext [iblk, e0, e1, bt, ct]
  rw [h, V12]
  pointwise

/-- A rebuilt cotangent, on a row inside the array. -/
theorem rhs_val (c : Dev nD) (t : Fin cfg0.N) (r : Fin 1920) (j : Fin 512) (d2 : S1x1920x512.Idx → Elt Ideal .fp8e5m2) (n : Fin 8640) (hn : n.val = 1920 * (t.val % 9 - 4) + r.val) :
    rhs ((cfg0.win 2).fill (grid0.coords t) d2 (iblk m c 2 t)) (iblk m c 3 t) (ix2 r j) = qv m c (bt t.val) (ct t.val j) n := by
  unfold rhs qv
  refine congrArg₂ (· * · : EReal → EReal → EReal) ((fill2 m c t r j d2 n hn).trans (arr3 m c _ n _)) ((blk3 m c t ⟨r.val / 32, by omega⟩ j ⟨n.val / 32, by omega⟩ (show r.val / 32 < 60 by omega) (show n.val / 32 = 60 * (t.val % 9 - 4) + r.val / 32 by omega)).trans ?_)
  refine congrArg (m ((c : Thread nD τ).loc main_arg3) : Vec Ideal S12x2048x3x18x5 .f32) ?_
  funext a; apply Fin.ext
  match a with
  | ⟨0, _⟩ => rfl
  | ⟨1, _⟩ => rfl
  | ⟨2, _⟩ => show n.val / 32 / 90 = n.val / 2880; omega
  | ⟨3, _⟩ => show n.val / 32 / 5 % 18 = n.val / 160 % 18; omega
  | ⟨4, _⟩ => rfl

/-! ## The parts that the points add -/

theorem partA_eq (c : Dev nD) (t : Fin cfg0.N) (h : t.val % 9 ≤ 3) (y : S2880x512.Idx) :
    partA (iblk m c 0 t) (iblk m c 1 t) y = ∑ k ∈ Finset.range 1920, pr m c (bt t.val) (ct t.val (y 1)) (y 0) (1920 * (t.val % 9) + k) := by
  rw [Finset.sum_range]
  unfold partA
  refine Finset.sum_congr rfl fun k _ => ?_
  unfold pr
  have hk : 1920 * (t.val % 9) + k.val < 7680 := by have := k.isLt; omega
  rw [dif_pos hk]
  exact congrArg₂ (· * · : EReal → EReal → EReal) (blk0 m c t _ k ⟨_, by omega⟩ rfl) (blk1 m c t _ k ⟨_, hk⟩ h rfl)

theorem pr_hi (c : Dev nD) (b : Fin 12) (s : Fin 2048) (d : Fin 2880) (n : ℕ) (h : 7680 ≤ n) (h' : n < 16320) :
    pr m c b s d n = wv m c d ⟨n, by omega⟩ * qv m c b s ⟨n - 7680, by omega⟩ := by
  unfold pr
  rw [dif_neg (by omega), dif_pos h']

theorem partC_eq (c : Dev nD) (t : Fin cfg0.N) (h : 4 ≤ t.val % 9) (h7 : t.val % 9 ≤ 7) (d2 : S1x1920x512.Idx → Elt Ideal .fp8e5m2) (y : S2880x512.Idx) :
    partC (iblk m c 0 t) ((cfg0.win 2).fill (grid0.coords t) d2 (iblk m c 2 t)) (iblk m c 3 t) y = ∑ k ∈ Finset.range 1920, pr m c (bt t.val) (ct t.val (y 1)) (y 0) (1920 * (t.val % 9) + k) := by
  rw [Finset.sum_range]
  unfold partC
  refine Finset.sum_congr rfl fun k _ => ?_
  have := k.isLt
  refine Eq.trans ?_ (pr_hi m c (bt t.val) (ct t.val (y 1)) (y 0) (1920 * (t.val % 9) + k.val) (by omega) (by omega)).symm
  exact congrArg₂ (· * · : EReal → EReal → EReal) (blk0 m c t _ k ⟨_, by omega⟩ rfl) (rhs_val m c t k _ d2 ⟨_, by omega⟩ (show 1920 * (t.val % 9) + k.val - 7680 = 1920 * (t.val % 9 - 4) + k.val by omega))

theorem partL_eq (c : Dev nD) (t : Fin cfg0.N) (h : t.val % 9 = 8) (d2 : S1x1920x512.Idx → Elt Ideal .fp8e5m2) (y : S2880x512.Idx) :
    partL (iblk m c 0 t) ((cfg0.win 2).fill (grid0.coords t) d2 (iblk m c 2 t)) (iblk m c 3 t) y = ∑ k ∈ Finset.range 960, pr m c (bt t.val) (ct t.val (y 1)) (y 0) (15360 + k) := by
  rw [Finset.sum_range]
  unfold partL
  refine Finset.sum_congr rfl fun k _ => ?_
  have := k.isLt
  refine Eq.trans ?_ (pr_hi m c (bt t.val) (ct t.val (y 1)) (y 0) (15360 + k.val) (by omega) (by omega)).symm
  exact congrArg₂ (· * · : EReal → EReal → EReal) (blk0 m c t _ ⟨k.val, by omega⟩ ⟨_, by omega⟩ (show 15360 + k.val = 1920 * (t.val % 9) + k.val by omega)) (rhs_val m c t ⟨k.val, by omega⟩ _ d2 ⟨_, by omega⟩ (show 15360 + k.val - 7680 = 1920 * (t.val % 9 - 4) + k.val by omega))

/-! ## What the carried sum holds -/

/-- After point `t`, unless it is the last of its tile: the products so far. -/
def Inv (c : Dev nD) (t : ℕ) (X : Vec Ideal S2880x512 .f32) : Prop :=
  t % 9 ≤ 7 → ∀ y : S2880x512.Idx, (show EReal from X y) = ∑ n ∈ Finset.range (1920 * (t % 9 + 1)), pr m c (bt t) (ct t (y 1)) (y 0) n

theorem inv_A (c : Dev nD) (t : Fin cfg0.N) (h : t.val % 9 = 0) (X : Vec Ideal S2880x512 .f32)
    (hX : ∀ y, X y = 0 + partA (iblk m c 0 t) (iblk m c 1 t) y) : Inv m c t.val X := by
  intro _ y
  refine (hX y).trans ?_
  rw [partA_eq m c t (by omega) y, h, zero_add]
  refine Finset.sum_congr rfl fun k _ => ?_
  rw [Nat.mul_zero, Nat.zero_add]

/-- The tile of a point that is not the first of its tile is that of the point before. -/
theorem prev_eq (t : ℕ) (h : ¬t % 9 = 0) : bt (t - 1) = bt t ∧ ct (t - 1) = ct t := by
  have e1 : (t - 1) / 36 = t / 36 := by omega
  have e2 : (t - 1) / 9 = t / 9 := by omega
  unfold bt ct
  simp only [e1, e2, and_self]

theorem step (c : Dev nD) (t : ℕ) (h : ¬t % 9 = 0) (P : EReal) (X Y : Vec Ideal S2880x512 .f32) (hY : Inv m c (t - 1) Y) (y : S2880x512.Idx)
    (n : ℕ) (hP : P = ∑ k ∈ Finset.range n, pr m c (bt t) (ct t (y 1)) (y 0) (1920 * (t % 9) + k))
    (hX : X y = (show EReal from Y y) + P) :
    (show EReal from X y) = ∑ n ∈ Finset.range (1920 * (t % 9) + n), pr m c (bt t) (ct t (y 1)) (y 0) n := by
  have hy := hY (by omega) y
  obtain ⟨e1, e2⟩ := prev_eq t h
  rw [e1, e2, show (t - 1) % 9 + 1 = t % 9 by omega] at hy
  refine hX.trans ?_
  rw [hP, Finset.sum_range_add]
  exact congrArg (· + _) hy

theorem inv_B (c : Dev nD) (t : Fin cfg0.N) (h : ¬t.val % 9 = 0) (h3 : t.val % 9 ≤ 3) (X Y : Vec Ideal S2880x512 .f32) (hY : Inv m c (t.val - 1) Y)
    (hX : ∀ y, X y = (show EReal from Y y) + partA (iblk m c 0 t) (iblk m c 1 t) y) : Inv m c t.val X := fun _ y =>
  step m c t.val h _ X Y hY y 1920 (partA_eq m c t h3 y) (hX y)

theorem inv_C (c : Dev nD) (t : Fin cfg0.N) (h : 4 ≤ t.val % 9) (h7 : t.val % 9 ≤ 7) (d2 : S1x1920x512.Idx → Elt Ideal .fp8e5m2) (X Y : Vec Ideal S2880x512 .f32) (hY : Inv m c (t.val - 1) Y)
    (hX : ∀ y, X y = (show EReal from Y y) + partC (iblk m c 0 t) ((cfg0.win 2).fill (grid0.coords t) d2 (iblk m c 2 t)) (iblk m c 3 t) y) : Inv m c t.val X := fun _ y =>
  step m c t.val (by omega) _ X Y hY y 1920 (partC_eq m c t h h7 d2 y) (hX y)

/-- Nothing is said of the carried sum after the last point of a tile. -/
theorem inv_last (c : Dev nD) (t : ℕ) (h : t % 9 = 8) (X : Vec Ideal S2880x512 .f32) : Inv m c t X := fun h7 => absurd h7 (by omega)

/-- All the products, as the two sums of the formula. -/
theorem sum_pr (c : Dev nD) (b : Fin 12) (s : Fin 2048) (d : Fin 2880) :
    ∑ n ∈ Finset.range 16320, pr m c b s d n = DxSpec.dh (wv m c) (dav m c b s) (qv m c b s) d := by
  rw [show (16320 : ℕ) = 7680 + 8640 from rfl, Finset.sum_range_add, Finset.sum_range, Finset.sum_range]
  unfold DxSpec.dh
  refine congrArg₂ (· + · : EReal → EReal → EReal) (Finset.sum_congr rfl fun f _ => ?_) (Finset.sum_congr rfl fun n _ => ?_)
  · unfold pr
    rw [dif_pos f.isLt]
  · have := n.isLt
    rw [pr_hi m c b s d _ (by omega) (by omega)]
    exact congrArg (wv m c d _ * ·) (congrArg (qv m c b s) (Fin.ext (Nat.add_sub_cancel_left _ _)))

theorem accF_val (c : Dev nD) (t : Fin cfg0.N) (h : t.val % 9 = 8) (d2 : S1x1920x512.Idx → Elt Ideal .fp8e5m2) (Y : Vec Ideal S2880x512 .f32) (hY : Inv m c (t.val - 1) Y) (y : S2880x512.Idx) :
    accF Y (iblk m c 0 t) ((cfg0.win 2).fill (grid0.coords t) d2 (iblk m c 2 t)) (iblk m c 3 t) y
      = DxSpec.dh (wv m c) (dav m c (bt t.val) (ct t.val (y 1))) (qv m c (bt t.val) (ct t.val (y 1))) (y 0) := by
  have e := step m c t.val (by omega) _ (accF Y (iblk m c 0 t) ((cfg0.win 2).fill (grid0.coords t) d2 (iblk m c 2 t)) (iblk m c 3 t)) Y hY y 960
    ((partL_eq m c t h d2 y).trans (by rw [h])) rfl
  rw [h] at e
  exact e.trans (sum_pr m c _ _ _)

/-- What the last point of a tile leaves in the result's buffer. -/
def res (c : Dev nD) (t : ℕ) (y : S1x2880x512.Idx) : EReal := gv m c (bt t) (ct t (y 2)) (y 1)

theorem fin_eq (c : Dev nD) (t : Fin cfg0.N) (h : t.val % 9 = 8) (d2 : S1x1920x512.Idx → Elt Ideal .fp8e5m2) (Y : Vec Ideal S2880x512 .f32) (hY : Inv m c (t.val - 1) Y) (y : S1x2880x512.Idx) :
    fin (accF Y (iblk m c 0 t) ((cfg0.win 2).fill (grid0.coords t) d2 (iblk m c 2 t)) (iblk m c 3 t)) (iblk m c 4 t) (iblk m c 5 t) (iblk m c 6 t) (iblk m c 7 t) (iblk m c 8 t) (iblk m c 9 t) y
      = res m c t.val y := by
  have hd : ∀ n : Fin 2880, dxhF (accF Y (iblk m c 0 t) ((cfg0.win 2).fill (grid0.coords t) d2 (iblk m c 2 t)) (iblk m c 3 t)) (iblk m c 9 t) (ix2 n (y 2))
      = DxSpec.dh (wv m c) (dav m c (bt t.val) (ct t.val (y 2))) (qv m c (bt t.val) (ct t.val (y 2))) n * (show EReal from (m ((c : Thread nD τ).loc main_arg9) : Vec Ideal S2880 .f32) (ix1 n)) := fun n =>
    congrArg₂ (· * · : EReal → EReal → EReal) (accF_val m c t h d2 Y hY (ix2 n (y 2))) (blk9 m c t n)
  have hx : ∀ n : Fin 2880, xhF (iblk m c 6 t) (rowOf (iblk m c 7 t)) (ix2 n (y 2)) = (show EReal from (m ((c : Thread nD τ).loc main_arg6) : Vec Ideal S12x2048x2880 .fp8e4m3) (ix3 (bt t.val) (ct t.val (y 2)) n)) * (show EReal from (m ((c : Thread nD τ).loc main_arg7) : Vec Ideal S12x2048 .f32) (ix2 (bt t.val) (ct t.val (y 2)))) := fun n =>
    congrArg₂ (· * · : EReal → EReal → EReal) (blk6 m c t n (y 2)) (blk7 m c t (y 2))
  unfold fin res gv DxSpec.row mean1 mean2
  rw [← invD_eq]
  refine congrArg₂ (· + · : EReal → EReal → EReal) (congrArg₂ (· * · : EReal → EReal → EReal) (blk4 m c t _ _) (blk5 m c t _ _))
    (congrArg₂ (· * · : EReal → EReal → EReal) (blk8 m c t _) (congrArg₂ (· - · : EReal → EReal → EReal) (congrArg₂ (· - · : EReal → EReal → EReal) (hd _) (congrArg (· * invD) (Finset.sum_congr rfl fun n _ => hd n)))
      (congrArg₂ (· * · : EReal → EReal → EReal) (hx _) (congrArg (· * invD) (Finset.sum_congr rfl fun n _ => congrArg₂ (· * · : EReal → EReal → EReal) (hd n) (hx n))))))

/-- The result array. -/
def G (c : Dev nD) : Buf (Elt Ideal) ((c : Thread nD τ).loc main_v13_0) := fun i : S12x2880x2048.Idx => gv m c (i 0) (i 2) (i 1)

theorem res_eq (c : Dev nD) (t : ℕ) (y : S1x2880x512.Idx) (i : S12x2880x2048.Idx) (h0 : i 0 = bt t) (h1 : i 1 = y 1) (h2 : i 2 = ct t (y 2)) :
    res m c t y = (G m c : Vec Ideal S12x2880x2048 .bf16) i := by
  unfold res G
  rw [h0, h1, h2]

end Cert.DxIdeal.Gen

end
-- ==== Proof.Dx.Ideal.RunD.lean ====
/- The run of the whole body in case D of its conditionals. -/
module

public import proofs.«01_k».proof.Proof.Dx.Ideal.RunC

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 7804000 in
/-- What the body's stores leave in each buffer it writes in this case, as pieces (last first), with the proof that the body,
    run on whole buffers, ends with the inputs as they were and each written buffer at its pieces. -/
noncomputable def kernelRun0_D (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : ¬cond0_2 i) (hc3 : cond0_3 i) (hc4 : cond0_4 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xs0 : Vec F S2880x512 .f32) :
    Σ' (L10 : List (View.Piece (Elt F) S1x2880x512 .bf16)), Σ' (L11 : List (View.Piece (Elt F) S2880x128 .f32)), Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_dx_ln_eq_skeleton]; unfold cc0_dx_ln_skel
    simp only [k0_part178_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part179_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part180_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.DxIdeal.Gen

end
-- ==== Proof.Dx.Ideal.OutD.lean ====
module

public import proofs.«01_k».proof.Proof.Dx.Ideal.Last
public import proofs.«01_k».proof.Proof.Dx.Ideal.RunD

/-! What case D leaves in the result's buffer. -/

@[expose] public section

set_option maxRecDepth 16384

noncomputable section

namespace Cert.DxIdeal.Gen

open Idealize.ShloMosaic Idealize.ShloMosaic.TcCoe Idealize.SL.Sem

set_option maxHeartbeats 4000000 in
theorem rhs_D (c : Dev nD) (arg4 : Memref sig .tc .vmem S1x1920x512 .fp8e5m2) (harg4 : arg4.IsWhole) (arg5 : Memref sig .tc .vmem S1x1x64x512 .f32) (harg5 : arg5.IsWhole)
    (x2 : Vec Ideal S1x1920x512 .fp8e5m2) (x3 : Vec Ideal S1x1x64x512 .f32) :
    RhsTo x2 x3 30 (kernelRun0_D.sl.HS1_30 (F := Ideal) c arg4 harg4 arg5 harg5 x2 x3) := by
  iterate 30 refine RhsTo.step ?_
  exact RhsTo.nil _ _

set_option maxHeartbeats 8000000 in
theorem st_D (c : Dev nD) (arg2 : Memref sig .tc .vmem S2880x1920 .bf16) (harg2 : arg2.IsWhole) (arg4 : Memref sig .tc .vmem S1x1920x512 .fp8e5m2) (harg4 : arg4.IsWhole) (arg5 : Memref sig .tc .vmem S1x1x64x512 .f32) (harg5 : arg5.IsWhole) (arg8 : Memref sig .tc .vmem S1x2880x512 .fp8e4m3) (harg8 : arg8.IsWhole) (arg9 : Memref sig .tc .vmem S1x1x512 .f32) (harg9 : arg9.IsWhole) (arg11 : Memref sig .tc .vmem S2880x1 .f32) (harg11 : arg11.IsWhole) (arg14 : Memref sig .tc .vmem S2880x512 .f32) (harg14 : arg14.IsWhole) (arg15 : Memref sig .tc .vmem S1920x512 .bf16)
    (x0 : Vec Ideal S2880x1920 .bf16) (x2 : Vec Ideal S1x1920x512 .fp8e5m2) (x3 : Vec Ideal S1x1x64x512 .f32) (x6 : Vec Ideal S1x2880x512 .fp8e4m3) (x7 : Vec Ideal S1x1x512 .f32) (x9 : Vec Ideal S2880x1 .f32) (xs0 : Vec Ideal S2880x512 .f32) :
    St (kernelRun0_D.sl.v351 (F := Ideal) c arg2 harg2 arg4 harg4 arg5 harg5 arg14 harg14 arg15 x0 x2 x3 xs0) x9 x6 (kernelRun0_D.sl.v356 (F := Ideal) c arg9 harg9 x7) 89
      (kernelRun0_D.sl.HS0_90 (F := Ideal) c arg2 harg2 arg4 harg4 arg5 harg5 arg11 harg11 arg14 harg14 arg15 x0 x2 x3 x9 xs0)
      (kernelRun0_D.sl.v4094 (F := Ideal) c arg2 harg2 arg4 harg4 arg5 harg5 arg11 harg11 arg14 harg14 arg15 x0 x2 x3 x9 xs0)
      (kernelRun0_D.sl.v4096 (F := Ideal) c arg2 harg2 arg4 harg4 arg5 harg5 arg8 harg8 arg9 harg9 arg11 harg11 arg14 harg14 arg15 x0 x2 x3 x6 x7 x9 xs0) := by
  iterate 89 refine St.step ?_
  exact St.base _ _ _ _

set_option maxHeartbeats 8000000 in
/-- What case D leaves in the result's buffer. -/
theorem out_D (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : ¬cond0_2 i) (hc3 : cond0_3 i) (hc4 : cond0_4 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S1x2880x512.Idx) :
    View.canon (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0).1 y = fin (accF xs0 x0 x2 x3) x4 x5 x6 x7 x8 x9 y := by
  have hst := St.step (harg8 := harg8) (harg11 := harg11) (arg14 := arg14) (inb := inb_S2880x512_S32x512_2848_0) (i8 := inb_S1x2880x512_S1x32x512_0_2848_0) (i11 := inb_S2880x1_S32x1_2848_0)
    (st_D c arg2 harg2 arg4 harg4 arg5 harg5 arg8 harg8 arg9 harg9 arg11 harg11 arg14 harg14 arg15 x0 x2 x3 x6 x7 x9 xs0)
  have hD : ∀ y : S2880x512.Idx, View.canon (kernelRun0_D.sl.HS0_91 (F := Ideal) c arg2 harg2 arg4 harg4 arg5 harg5 arg11 harg11 arg14 harg14 arg15 x0 x2 x3 x9 xs0) y = dxhF (kernelRun0_D.sl.v351 (F := Ideal) c arg2 harg2 arg4 harg4 arg5 harg5 arg14 harg14 arg15 x0 x2 x3 xs0) x9 y :=
    fun y => hst.lo y (y 0).isLt
  have h : OutTo (outF (dxhF (kernelRun0_D.sl.v351 (F := Ideal) c arg2 harg2 arg4 harg4 arg5 harg5 arg14 harg14 arg15 x0 x2 x3 xs0) x9) x4 x5 x6 (kernelRun0_D.sl.v356 (F := Ideal) c arg9 harg9 x7) (kernelRun0_D.sl.r_2 (F := Ideal) c arg10 harg10 x8)
      (kernelRun0_D.sl.r (F := Ideal) c arg2 harg2 arg4 harg4 arg5 harg5 arg11 harg11 arg14 harg14 arg15 x0 x2 x3 x9 xs0)
      (kernelRun0_D.sl.r_1 (F := Ideal) c arg2 harg2 arg4 harg4 arg5 harg5 arg8 harg8 arg9 harg9 arg11 harg11 arg14 harg14 arg15 x0 x2 x3 x6 x7 x9 xs0)) 90 (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0).1 := by
    iterate 90 refine OutTo.step hD ?_
    exact OutTo.nil _
  refine (h y (y 1).isLt).trans (outF_eq_fin ?_ ?_ ?_ ?_ ?_ y)
  · exact accF_eq (rhs_D c arg4 harg4 arg5 harg5 x2 x3)
  · exact rowOf_eq
  · exact rowOf_eq
  · exact scaleSum_apply _ _ hst.s1
  · exact scaleSum_apply _ _ hst.s2

set_option maxHeartbeats 4000000 in
theorem coverOut_D (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : ¬cond0_2 i) (hc3 : cond0_3 i) (hc4 : cond0_4 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (y : S1x2880x512.Idx) :
    ∃ pc ∈ (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0).1, y ∈ pc.1.set :=
  View.cover_of_tiledL (kernelRun0_D (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xs0).1 S1x32x512.size (by sl_kernel_rfl) y

end Cert.DxIdeal.Gen

end
-- ==== Proof.Dx.Ideal.RunE.lean ====
/- The run of the whole body in case E of its conditionals. -/
module

public import proofs.«01_k».proof.Proof.Dx.Ideal.RunD

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 7796000 in
/-- What the body's stores leave in each buffer it writes in this case, as pieces (last first), with the proof that the body,
    run on whole buffers, ends with the inputs as they were and each written buffer at its pieces. -/
noncomputable def kernelRun0_E (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole) (hc0 : ¬cond0_0 i) (hc1 : ¬cond0_1 i) (hc2 : ¬cond0_2 i) (hc3 : cond0_3 i) (hc4 : ¬cond0_4 i)
    (x0 : Vec F S2880x1920 .bf16) (x1 : Vec F S1x512x1920 .bf16) (x2 : Vec F S1x1920x512 .fp8e5m2) (x3 : Vec F S1x1x64x512 .f32) (x4 : Vec F S1x2880x512 .fp8e5m2) (x5 : Vec F S1x90x512 .f32) (x6 : Vec F S1x2880x512 .fp8e4m3) (x7 : Vec F S1x1x512 .f32) (x8 : Vec F S1x1x512 .f32) (x9 : Vec F S2880x1 .f32) (xo11 : Vec F S2880x128 .f32) (xs0 : Vec F S2880x512 .f32) :
    Σ' (L10 : List (View.Piece (Elt F) S1x2880x512 .bf16)), Σ' (L11 : List (View.Piece (Elt F) S2880x128 .f32)), Σ' (LS0 : List (View.Piece (Elt F) S2880x512 .f32)), { LT1 : List (View.Piece (Elt F) S1920x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xo11 ∗ owns (c : Thread nD τ) arg14 fullShare xs0 ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LT1)) -∗ K ⟨⟩))
          ⊢ wp frame (wpE (defs₀ (F := F)) Variants.none c none) E (cc0_dx_ln i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun E K => ?run⟩
  case run =>
    simp only [cc0_dx_ln_eq_skeleton]; unfold cc0_dx_ln_skel
    simp only [k0_part178_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part179_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part180_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hf11; obtain rfl := harg14.eq_unread hfs0
    sl_exec (disch := first | sl_exact hc0 | sl_exact hc1 | sl_exact hc2 | sl_exact hc3 | sl_exact hc4)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [HS0]; · iexists _; iexact HS0
    iexists _; iexact HS1

end Cert.DxIdeal.Gen

end
-- ==== Proof.Dx.Ideal.OutE.lean ====
module

public import proofs.«01_k».proof.Proof.Dx.Ideal.Last
public import proofs.«01_k».proof.Proof.Dx.Ideal.RunE

/-! What case E leaves in the result's buffer. -/

@[expose] public section

set_option maxRecDepth 16384

noncomputable section

namespace Cert.DxIdeal.Gen

open Idealize.ShloMosaic Idealize.ShloMosaic.TcCoe Idealize.SL.Sem

set_option maxHeartbeats 4000000 in
theorem rhs_E (c : Dev nD) (arg4 : Memref sig .tc .vmem S1x1920x512 .fp8e5m2) (harg4 : arg4.IsWhole) (arg5 : Memref sig .tc .vmem S1x1x64x512 .f32) (harg5 : arg5.IsWhole)
    (x2 : Vec Ideal S1x1920x512 .fp8e5m2) (x3 : Vec Ideal S1x1x64x512 .f32) :
    RhsTo x2 x3 30 (kernelRun0_E.sl.HS1_30 (F := Ideal) c arg4 harg4 arg5 harg5 x2 x3) := by
  iterate 30 refine RhsTo.step ?_
  exact RhsTo.nil _ _

set_option maxHeartbeats 8000000 in
theorem st_E (c : Dev nD) (arg2 : Memref sig .tc .vmem S2880x1920 .bf16) (harg2 : arg2.IsWhole) (arg4 : Memref sig .tc .vmem S1x1920x512 .fp8e5m2) (harg4 : arg4.IsWhole) (arg5 : Memref sig .tc .vmem S1x1x64x512 .f32) (harg5 : arg5.IsWhole) (arg8 : Memref sig .tc .vmem S1x2880x512 .fp8e4m3) (harg8 : arg8.IsWhole) (arg9 : Memref sig .tc .vmem S1x1x512 .f32) (harg9 : arg9.IsWhole) (arg11 : Memref sig .tc .vmem S2880x1 .f32) (harg11 : arg11.IsWhole) (arg14 : Memref sig .tc .vmem S2880x512 .f32) (harg14 : arg14.IsWhole) (arg15 : Memref sig .tc .vmem S1920x512 .bf16)
    (x0 : Vec Ideal S2880x1920 .bf16) (x2 : Vec Ideal S1x1920x512 .fp8e5m2) (x3 : Vec Ideal S1x1x64x512 .f32) (x6 : Vec Ideal S1x2880x512 .fp8e4m3) (x7 : Vec Ideal S1x1x512 .f32) (x9 : Vec Ideal S2880x1 .f32) (xs0 : Vec Ideal S2880x512 .f32) :
    St (kernelRun0_E.sl.v351 (F := Ideal) c arg2 harg2 arg4 harg4 arg5 harg5 arg14 harg14 arg15 x0 x2 x3 xs0) x9 x6 (kernelRun0_E.sl.v356 (F := Ideal) c arg9 harg9 x7) 89
      (kernelRun0_E.sl.HS0_90 (F := Ideal) c arg2 harg2 arg4 harg4 arg5 harg5 arg11 harg11 arg14 harg14 arg15 x0 x2 x3 x9 xs0)
      (kernelRun0_E.sl.v4094 (F := Ideal) c arg2 harg2 arg4 harg4 arg5 harg5 arg11 harg11 arg14 harg14 arg15 x0 x2 x3 x9 xs0)
      (kernelRun0_E.sl.v4096 (F := Ideal) c arg2 harg2 arg4 harg4 arg5 harg5 arg8 harg8 arg9 harg9 arg11 harg11 arg14 harg14 arg15 x0 x2 x3 x6 x7 x9 xs0) := by
  iterate 89 refine St.step ?_
  exact St.base _ _ _ _

set_option maxHeartbeats 8000000 in
/-- What case E leaves in the result's buffer. -/
theorem out_E (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : ¬cond0_2 i) (hc3 : cond0_3 i) (hc4 : ¬cond0_4 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (xo11 : Vec Ideal S2880x128 .f32) (y : S1x2880x512.Idx) :
    View.canon (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xo11 xs0).1 y = fin (accF xs0 x0 x2 x3) x4 x5 x6 x7 x8 x9 y := by
  have hst := St.step (harg8 := harg8) (harg11 := harg11) (arg14 := arg14) (inb := inb_S2880x512_S32x512_2848_0) (i8 := inb_S1x2880x512_S1x32x512_0_2848_0) (i11 := inb_S2880x1_S32x1_2848_0)
    (st_E c arg2 harg2 arg4 harg4 arg5 harg5 arg8 harg8 arg9 harg9 arg11 harg11 arg14 harg14 arg15 x0 x2 x3 x6 x7 x9 xs0)
  have hD : ∀ y : S2880x512.Idx, View.canon (kernelRun0_E.sl.HS0_91 (F := Ideal) c arg2 harg2 arg4 harg4 arg5 harg5 arg11 harg11 arg14 harg14 arg15 x0 x2 x3 x9 xs0) y = dxhF (kernelRun0_E.sl.v351 (F := Ideal) c arg2 harg2 arg4 harg4 arg5 harg5 arg14 harg14 arg15 x0 x2 x3 xs0) x9 y :=
    fun y => hst.lo y (y 0).isLt
  have h : OutTo (outF (dxhF (kernelRun0_E.sl.v351 (F := Ideal) c arg2 harg2 arg4 harg4 arg5 harg5 arg14 harg14 arg15 x0 x2 x3 xs0) x9) x4 x5 x6 (kernelRun0_E.sl.v356 (F := Ideal) c arg9 harg9 x7) (kernelRun0_E.sl.r_2 (F := Ideal) c arg10 harg10 x8)
      (kernelRun0_E.sl.r (F := Ideal) c arg2 harg2 arg4 harg4 arg5 harg5 arg11 harg11 arg14 harg14 arg15 x0 x2 x3 x9 xs0)
      (kernelRun0_E.sl.r_1 (F := Ideal) c arg2 harg2 arg4 harg4 arg5 harg5 arg8 harg8 arg9 harg9 arg11 harg11 arg14 harg14 arg15 x0 x2 x3 x6 x7 x9 xs0)) 90 (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xo11 xs0).1 := by
    iterate 90 refine OutTo.step hD ?_
    exact OutTo.nil _
  refine (h y (y 1).isLt).trans (outF_eq_fin ?_ ?_ ?_ ?_ ?_ y)
  · exact accF_eq (rhs_E c arg4 harg4 arg5 harg5 x2 x3)
  · exact rowOf_eq
  · exact rowOf_eq
  · exact scaleSum_apply _ _ hst.s1
  · exact scaleSum_apply _ _ hst.s2

set_option maxHeartbeats 4000000 in
theorem coverOut_E (c : Dev nD) (i : grid0.Coords) (arg2 : Memref sig .tc .vmem S2880x1920 .bf16) (harg2 : arg2.IsWhole) (arg3 : Memref sig .tc .vmem S1x512x1920 .bf16) (harg3 : arg3.IsWhole) (arg4 : Memref sig .tc .vmem S1x1920x512 .fp8e5m2) (harg4 : arg4.IsWhole) (arg5 : Memref sig .tc .vmem S1x1x64x512 .f32) (harg5 : arg5.IsWhole) (arg6 : Memref sig .tc .vmem S1x2880x512 .fp8e5m2) (harg6 : arg6.IsWhole) (arg7 : Memref sig .tc .vmem S1x90x512 .f32) (harg7 : arg7.IsWhole) (arg8 : Memref sig .tc .vmem S1x2880x512 .fp8e4m3) (harg8 : arg8.IsWhole) (arg9 : Memref sig .tc .vmem S1x1x512 .f32) (harg9 : arg9.IsWhole) (arg10 : Memref sig .tc .vmem S1x1x512 .f32) (harg10 : arg10.IsWhole) (arg11 : Memref sig .tc .vmem S2880x1 .f32) (harg11 : arg11.IsWhole) (arg12 : Memref sig .tc .vmem S1x2880x512 .bf16) (harg12 : arg12.IsWhole) (arg13 : Memref sig .tc .vmem S2880x128 .f32) (harg13 : arg13.IsWhole) (arg14 : Memref sig .tc .vmem S2880x512 .f32) (harg14 : arg14.IsWhole) (arg15 : Memref sig .tc .vmem S1920x512 .bf16) (harg15 : arg15.IsWhole)
    (hc0 : ¬cond0_0 i) (hc1 : ¬cond0_1 i) (hc2 : ¬cond0_2 i) (hc3 : cond0_3 i) (hc4 : ¬cond0_4 i)
    (x0 : Vec Ideal S2880x1920 .bf16) (x1 : Vec Ideal S1x512x1920 .bf16) (x2 : Vec Ideal S1x1920x512 .fp8e5m2) (x3 : Vec Ideal S1x1x64x512 .f32) (x4 : Vec Ideal S1x2880x512 .fp8e5m2) (x5 : Vec Ideal S1x90x512 .f32) (x6 : Vec Ideal S1x2880x512 .fp8e4m3) (x7 : Vec Ideal S1x1x512 .f32) (x8 : Vec Ideal S1x1x512 .f32) (x9 : Vec Ideal S2880x1 .f32) (xs0 : Vec Ideal S2880x512 .f32) (xo11 : Vec Ideal S2880x128 .f32) (y : S1x2880x512.Idx) :
    ∃ pc ∈ (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xo11 xs0).1, y ∈ pc.1.set :=
  View.cover_of_tiledL (kernelRun0_E (F := Ideal) c i arg2 harg2 arg3 harg3 arg4 harg4 arg5 harg5 arg6 harg6 arg7 harg7 arg8 harg8 arg9 harg9 arg10 harg10 arg11 harg11 arg12 harg12 arg13 harg13 arg14 harg14 arg15 harg15 hc0 hc1 hc2 hc3 hc4 x0 x1 x2 x3 x4 x5 x6 x7 x8 x9 xo11 xs0).1 S1x32x512.size (by sl_kernel_rfl) y

end Cert.DxIdeal.Gen

end
-- ==== Proof.Dx.Ideal.Body.lean ====
module

public import proofs.«01_k».proof.Proof.Dx.Ideal.Value
public import proofs.«01_k».proof.Proof.Dx.Ideal.OutD
public import proofs.«01_k».proof.Proof.Dx.Ideal.OutE

@[expose] public section

set_option maxRecDepth 16384

noncomputable section

namespace Cert.DxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Between the points: the carried sum holds the products of the tile so far, and the other scratch buffer anything. -/
def PhiP (c : Dev nD) (t : ℕ) : sProp 𝕄 :=
  iprop(iprop((∃ X, ⌜Inv m c t X⌝ ∗ owns (c : Thread nD τ) scM0_0 fullShare X) ∗ (∃ d, owns (c : Thread nD τ) scM0_1 fullShare d)) ∗ (∃ r, prngReg c r))

/-- The same by position: before the first point both scratch buffers hold anything. -/
def PhiS (c : Dev nD) : ℕ → sProp 𝕄
  | 0 => Pipeline.ΦA spec0 c
  | n + 1 => PhiP m c n

/-- The proof data: each input's buffer holds its block, the result's buffer after the last point of a tile the finished
    rows. The other result's buffer is not named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (cfg0.win 2).fill (grid0.coords t) (fun _ => (0 : EReal)) (iblk m c 2 t)
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => res m c t.val
    | ⟨11, _⟩ => fun _ => (0 : EReal)
  Φ t := PhiS m c t.val
  q _ := fullShare
  owed _ := 0

/-- Nothing is said of the second result. -/
def fgt (w : Fin 12) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (cfg0.win 2).fill (grid0.coords t) (fun _ => (0 : EReal)) (iblk m c 2 t) := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = res m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
/-- The buffer of the cotangents, whose last block overhangs the array: the block's part inside the array, the rest as it was. -/
theorem before0_2 (c : Dev nD) (t : Fin cfg0.N) (d) : (dats m 0 c).before 2 t d = (cfg0.win 2).fill (grid0.coords t) d (iblk m c 2 t) := by
  refine (Dat.before_in_eq_fetched (dats m 0 c) 2 rfl (fun _ => rfl)
    (fun t t' h => funext fun a => congrArg (fun f : Fin 3 → ℕ => Pipeline.Clip.of (f a) (S1x1920x512.size a) (S12x8640x2048.size a)) h) (fun t => ?_) t d).trans ?_
  · rw [after0_2, Pipeline.Window.cut_fill]; unfold Dat.blockOf iblk; rw [A_eq]
  · unfold Dat.fetched Dat.blockOf iblk; rw [A_eq]

theorem PhiS_castSucc (c : Dev nD) (t : Fin cfg0.N) : (dats m 0 c).Φ t.castSucc = PhiS m c t.val := by
  dsimp only [dats]; rfl
theorem PhiS_succ (c : Dev nD) (t : Fin cfg0.N) : (dats m 0 c).Φ t.succ = PhiP m c t.val := by
  dsimp only [dats]; rfl
theorem PhiS_pos (c : Dev nD) (n : ℕ) (h : n ≠ 0) : PhiS m c n = PhiP m c (n - 1) := by
  cases n with
  | zero => exact absurd rfl h
  | succ n => rfl

/-- Between the points the carried sum may be forgotten. -/
theorem PhiS_any (c : Dev nD) (n : ℕ) : PhiS m c n ⊢ iprop(iprop((∃ d, owns (c : Thread nD τ) scM0_0 fullShare d) ∗ (∃ d, owns (c : Thread nD τ) scM0_1 fullShare d)) ∗ (∃ r, prngReg c r)) := by
  cases n with
  | zero => exact (show PhiS m c 0 = _ from PhiA0_eq c) ▸ .rfl
  | succ n =>
    show PhiP m c n ⊢ _
    unfold PhiP
    iintro ⟨⟨⟨%X, -, HS0⟩, HS1⟩, Hg⟩
    isplitl [HS0 HS1]
    · isplitl [HS0]
      · iexists _; iexact HS0
      iexact HS1
    iexact Hg

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ X, owns (c : Thread nD τ) (ms0_11 t) fullShare X))

/-- and what it returns: of the buffer whose last block overhangs the array, the part inside it. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare ((cfg0.win 2).fill (grid0.coords t) d ((cfg0.win 2).cut (grid0.coords t) ((dats m 0 c).after 2 t))))
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (dats m 0 c).leaves 10 t
    ∗ (∃ X, owns (c : Thread nD τ) (ms0_11 t) fullShare X))

/-- The result's buffer after the last point of a tile. -/
theorem leaves_live (c : Dev nD) (t : Fin cfg0.N) (hl : cfg0.idle 10 (grid0.coords t) = false) :
    owns (c : Thread nD τ) (ms0_10 t) fullShare (res m c t.val) ⊢ ((dats m 0 c).leaves 10 t : sProp 𝕄) := by
  have h : (dats m 0 c).leaves 10 t = owns (c : Thread nD τ) (ms0_10 t) fullShare ((dats m 0 c).after 10 t) := by
    unfold Dat.leaves; rw [hl]
  rw [h, after0_10]

set_option maxHeartbeats 9600000 in
theorem body_A (c : Dev nD) (t : Fin cfg0.N) (h0 : t.val % 9 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, PhiS_succ, PhiS_castSucc,
    after0_0, after0_1, after0_2, after0_3, after0_4, after0_5, after0_6, after0_7, after0_8, after0_9, Pipeline.Window.cut_fill]
  refine (sep_mono (PhiS_any m c t.val) .rfl).trans ?_
  unfold PhiP
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hinv := inv_A m c t h0 _ (fun y => (congrFun (View.read_writes_junk_eq_canon VS0_0 _) y).trans (acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) y))
  iapply ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t)).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, ⟨%es0, HS0⟩, HS1⟩
  isplitl [HS0 HS1 Hg]
  · isplitl [HS0 HS1]
    · isplitl [HS0]
      · iexists _; isplitr; · ipureintro; exact hinv
        unfold owns; iexists _; isplitr
        swap; · iexact HS0
        ipureintro; exact View.read_writes_of_cover _ _ _ _ _ (cover_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t))
      iexact HS1
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [Dat.leaves_idle (dats m 0 c) 10 t (idleAt0_10_A t ((hcond0_0 t).mpr (by omega)) ((hcond0_1 t).mpr (by omega)) (fun h => absurd ((hcond0_2 t).mp h) (by omega)) (fun h => absurd ((hcond0_3 t).mp h) (by omega))) (noFlush0_10_A t ((hcond0_0 t).mpr (by omega)) ((hcond0_1 t).mpr (by omega)) (fun h => absurd ((hcond0_2 t).mp h) (by omega)) (fun h => absurd ((hcond0_3 t).mp h) (by omega)))]
    iexists _; iexact H10
  iexists _; iexact H11

set_option maxHeartbeats 9600000 in
theorem body_B (c : Dev nD) (t : Fin cfg0.N) (h0 : ¬t.val % 9 = 0) (h3 : t.val % 9 ≤ 3) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, PhiS_succ, PhiS_castSucc,
    after0_0, after0_1, after0_2, after0_3, after0_4, after0_5, after0_6, after0_7, after0_8, after0_9, Pipeline.Window.cut_fill]
  rw [PhiS_pos m c _ (by omega)]; unfold PhiP
  iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hinv := inv_B m c t h0 h3 _ xs0 hxs (fun y => (congrFun (View.read_writes_junk_eq_canon VS0_0 _) y).trans (acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0 y))
  iapply ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, ⟨%es0, HS0⟩, HS1⟩
  isplitl [HS0 HS1 Hg]
  · isplitl [HS0 HS1]
    · isplitl [HS0]
      · iexists _; isplitr; · ipureintro; exact hinv
        unfold owns; iexists _; isplitr
        swap; · iexact HS0
        ipureintro; exact View.read_writes_of_cover _ _ _ _ _ (cover_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) ((hcond0_1 t).mpr (by omega)) (fun h => absurd ((hcond0_2 t).mp h) (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0)
      iexact HS1
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [Dat.leaves_idle (dats m 0 c) 10 t (idleAt0_10_B t (fun h => absurd ((hcond0_0 t).mp h) (by omega)) ((hcond0_1 t).mpr (by omega)) (fun h => absurd ((hcond0_2 t).mp h) (by omega)) (fun h => absurd ((hcond0_3 t).mp h) (by omega))) (noFlush0_10_B t (fun h => absurd ((hcond0_0 t).mp h) (by omega)) ((hcond0_1 t).mpr (by omega)) (fun h => absurd ((hcond0_2 t).mp h) (by omega)) (fun h => absurd ((hcond0_3 t).mp h) (by omega)))]
    iexists _; iexact H10
  iexists _; iexact H11

set_option maxHeartbeats 9600000 in
theorem body_C (c : Dev nD) (t : Fin cfg0.N) (h3 : ¬t.val % 9 ≤ 3) (h7 : t.val % 9 ≤ 7) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, PhiS_succ, PhiS_castSucc,
    after0_0, after0_1, after0_2, after0_3, after0_4, after0_5, after0_6, after0_7, after0_8, after0_9, Pipeline.Window.cut_fill]
  rw [PhiS_pos m c _ (by omega)]; unfold PhiP
  iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hinv := inv_C m c t (by omega) h7 d2 _ xs0 hxs (fun y => (congrFun (View.read_writes_junk_eq_canon VS0_0 _) y).trans (acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0 y))
  iapply ((kernelRun0_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0).2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, ⟨%es0, HS0⟩, ⟨%fT1, HS1⟩⟩
  isplitl [HS0 HS1 Hg]
  · isplitl [HS0 HS1]
    · isplitl [HS0]
      · iexists _; isplitr; · ipureintro; exact hinv
        unfold owns; iexists _; isplitr
        swap; · iexact HS0
        ipureintro; exact View.read_writes_of_cover _ _ _ _ _ (cover_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) ((hcond0_2 t).mpr (by omega)) (fun h => absurd ((hcond0_3 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0)
      iexists _; unfold owns; iexists _; isplitr
      swap; · iexact HS1
      ipureintro; rfl
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [Dat.leaves_idle (dats m 0 c) 10 t (idleAt0_10_C t (fun h => absurd ((hcond0_0 t).mp h) (by omega)) (fun h => absurd ((hcond0_1 t).mp h) (by omega)) ((hcond0_2 t).mpr (by omega)) (fun h => absurd ((hcond0_3 t).mp h) (by omega))) (noFlush0_10_C t (fun h => absurd ((hcond0_0 t).mp h) (by omega)) (fun h => absurd ((hcond0_1 t).mp h) (by omega)) ((hcond0_2 t).mpr (by omega)) (fun h => absurd ((hcond0_3 t).mp h) (by omega)))]
    iexists _; iexact H10
  iexists _; iexact H11

set_option maxHeartbeats 9600000 in
theorem body_D (c : Dev nD) (t : Fin cfg0.N) (h8 : t.val % 9 = 8) (h9 : t.val < 9) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, PhiS_succ, PhiS_castSucc,
    after0_0, after0_1, after0_2, after0_3, after0_4, after0_5, after0_6, after0_7, after0_8, after0_9, Pipeline.Window.cut_fill]
  rw [PhiS_pos m c _ (by omega)]; unfold PhiP
  iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hout := fun y => (congrFun (View.read_writes_junk_eq_canon VO0_10 _) y).trans ((out_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0 y).trans (fin_eq m c t h8 d2 xs0 hxs y))
  iapply ((kernelRun0_D (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [HS0]; · iexact HS0
  isplitl [HS1]; · iexact HS1
  iintro ⟨H0, H1, H2, H3, H4, H5, H6, H7, H8, H9, ⟨%e10, H10⟩, ⟨%e11, H11⟩, ⟨%es0, HS0⟩, ⟨%fT1, HS1⟩⟩
  isplitl [HS0 HS1 Hg]
  · isplitl [HS0 HS1]
    · isplitl [HS0]
      · iexists _; isplitr; swap
        · unfold owns; iexists _; isplitr
          swap; · iexact HS0
          ipureintro; rfl
        ipureintro; exact inv_last m c t.val h8 _
      iexists _; unfold owns; iexists _; isplitr
      swap; · iexact HS1
      ipureintro; rfl
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_live m c t (liveAt0_10_D t (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega))))
    unfold owns; iexists _; isplitr
    swap; · iexact H10
    ipureintro; exact (View.read_writes_of_cover _ _ _ _ _ (coverOut_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) ((hcond0_4 t).mpr (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0)).trans (funext hout)
  iexists _; unfold owns; iexists _; isplitr
  swap; · iexact H11
  ipureintro; rfl

set_option maxHeartbeats 9600000 in
theorem body_E (c : Dev nD) (t : Fin cfg0.N) (h8 : t.val % 9 = 8) (h9 : ¬t.val < 9) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl, PhiS_succ, PhiS_castSucc,
    after0_0, after0_1, after0_2, after0_3, after0_4, after0_5, after0_6, after0_7, after0_8, after0_9, Pipeline.Window.cut_fill]
  rw [PhiS_pos m c _ (by omega)]; unfold PhiP
  iintro ⟨⟨⟨⟨%xs0, %hxs, HS0⟩, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  have hout := fun y => (congrFun (View.read_writes_junk_eq_canon VO0_10 _) y).trans ((out_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0 d11 y).trans (fin_eq m c t h8 d2 xs0 hxs y))
  iapply ((kernelRun0_E (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) d11 xs0).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [HS0]; · iexact HS0
  isplitl [HS1]; · iexact HS1
  iintro ⟨H0, H1, H2, H3, H4, H5, H6, H7, H8, H9, ⟨%e10, H10⟩, ⟨%e11, H11⟩, ⟨%es0, HS0⟩, ⟨%fT1, HS1⟩⟩
  isplitl [HS0 HS1 Hg]
  · isplitl [HS0 HS1]
    · isplitl [HS0]
      · iexists _; isplitr; swap
        · unfold owns; iexists _; isplitr
          swap; · iexact HS0
          ipureintro; rfl
        ipureintro; exact inv_last m c t.val h8 _
      iexists _; unfold owns; iexists _; isplitr
      swap; · iexact HS1
      ipureintro; rfl
    iexact Hg
  isplitl [Ho]; · iexact Ho
  isplitl [H0]; · iexact H0
  isplitl [H1]; · iexact H1
  isplitl [H2]; · iexists d2; iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · iapply (leaves_live m c t (liveAt0_10_E t (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega))))
    unfold owns; iexists _; isplitr
    swap; · iexact H10
    ipureintro; exact (View.read_writes_of_cover _ _ _ _ _ (coverOut_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => absurd ((hcond0_0 t).mp h) (by omega)) (fun h => absurd ((hcond0_1 t).mp h) (by omega)) (fun h => absurd ((hcond0_2 t).mp h) (by omega)) ((hcond0_3 t).mpr (by omega)) (fun h => absurd ((hcond0_4 t).mp h) (by omega)) (iblk m c 0 t) (iblk m c 1 t) ((cfg0.win 2).fill (grid0.coords t) d2 (iblk m c 2 t)) (iblk m c 3 t) (iblk m c 4 t) (iblk m c 5 t) (iblk m c 6 t) (iblk m c 7 t) (iblk m c 8 t) (iblk m c 9 t) xs0 d11)).trans (funext hout)
  iexists _; unfold owns; iexists _; isplitr
  swap; · iexact H11
  ipureintro; rfl

/-- The body at any point, by the run of the case the point is in. -/
theorem sound_body (c : Dev nD) (t : Fin cfg0.N) :
    bodyPre m c t ⊢ wp frame (wpE (defs₀ (F := Ideal)) Variants.none c none) Set.univ (bodyAt0 t) (fun _ => bodyPost m c t) := by
  by_cases h0 : t.val % 9 = 0
  · exact body_A m c t h0
  by_cases h3 : t.val % 9 ≤ 3
  · exact body_B m c t h0 h3
  by_cases h7 : t.val % 9 ≤ 7
  · exact body_C m c t h3 h7
  by_cases h9 : t.val < 9
  · exact body_D m c t (by omega) h9
  · exact body_E m c t (by omega) h9

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligationLoose (dats m 0 c) (defs₀ (F := Ideal)) Variants.none () Set.univ fgt := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  exact PhiS_any m c _

set_option backward.isDefEq.respectTransparency.types false in
/-- The run, and every counter at zero at its end. -/
theorem run_main : θ_run defs (onTc (τ := τ) (main (F := Ideal))) (s₀ m ρ) (fun r => Pipeline.RDat.FramePost (cfgs 0) (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hin := hin m) (hout := hout m)

/-! ## The result array -/

theorem idx10 : ∀ t : Fin cfg0.N, win0_10.index t (0 : Fin 3) = t.val / 36 ∧ win0_10.index t (1 : Fin 3) = 0 ∧ win0_10.index t (2 : Fin 3) = t.val / 9 % 4 :=
  (by decide +kernel : ∀ t : Fin grid0.N, _)

/-- What a point writes back is its block of the result. -/
theorem flushed10_eq (c : Dev nD) (t : Fin cfg0.N) :
    (dats m 0 c).flushed 10 t = ((cfg0.win 10).blk t).view.read (Elt Ideal) (G m c) := by
  show (cfg0.win 10).cut (grid0.coords t) ((dats m 0 c).after 10 t) = _
  rw [after0_10]
  obtain ⟨e0, e1, e2⟩ := idx10 t
  have hN := lt_N t
  funext y
  have hy0 : (y 0).val < 1 := (y 0).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 2880 + 1 * (y 1).val := rfl
  have hb2 : (((cfg0.win 10).blk t).view.emb y 2).val = win0_10.index t (2 : Fin 3) * 512 + 1 * (y 2).val := rfl
  refine res_eq m c t.val _ (((cfg0.win 10).blk t).view.emb y) (Fin.ext ?_) (Fin.ext ?_) (Fin.ext ?_)
  · show _ = t.val / 36 % 12
    rw [hb0, e0]; omega
  · show _ = (y 1).val
    rw [hb1, e1]; omega
  · show _ = 512 * (t.val / 9 % 4) + (y 2).val
    rw [hb2, e2]; omega

theorem mem_blk10 (t : Fin cfg0.N) (i : S12x2880x2048.Idx) :
    i ∈ ((cfg0.win 10).blk t).view.set ↔ ∀ a : Fin 3, win0_10.index t a * S1x2880x512.size a ≤ (i a).val ∧ (i a).val < win0_10.index t a * S1x2880x512.size a + win0_10.xsize (grid0.coords t) a := by
  show i ∈ ((View.whole main_v13_0).slice (win0_10.rect t)).set ↔ _
  rw [View.set_slice_whole, Rect.mem_set_unit]
  exact Iff.rfl

/-- Every element of the result is written back by some point. -/
theorem covered10 (i : S12x2880x2048.Idx) : ∃ t : Fin cfg0.N, (cfg0.win 10).flush t = true ∧ i ∈ ((cfg0.win 10).blk t).view.set := by
  have h0 : (i 0).val < 12 := (i 0).isLt
  have h1 : (i 1).val < 2880 := (i 1).isLt
  have h2 : (i 2).val < 2048 := (i 2).isLt
  have hN : cfg0.N = 432 := N_0
  let t : Fin cfg0.N := ⟨36 * (i 0).val + 9 * ((i 2).val / 512) + 8, by omega⟩
  have ht : t.val = 36 * (i 0).val + 9 * ((i 2).val / 512) + 8 := rfl
  refine ⟨t, (flush0_10 t).mpr (by omega), ?_⟩
  obtain ⟨e0, e1, e2⟩ := idx10 t
  rw [mem_blk10]
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 2880 ≤ (i 1).val ∧ (i 1).val < win0_10.index t (1 : Fin 3) * 2880 + 2880; omega
  | ⟨2, _⟩ => show win0_10.index t (2 : Fin 3) * 512 ≤ (i 2).val ∧ (i 2).val < win0_10.index t (2 : Fin 3) * 512 + 512; omega

theorem final10 (c : Dev nD) : (dats m 0 c).arrAt 10 cfg0.N = G m c :=
  (dats m 0 c).arrAt_eq_of_cover 10 _ (fun t _ => flushed10_eq m c t) covered10

/-- An input's array ends as it was. -/
theorem arr_in (c : Dev nD) (w : Fin 12) (hw : (cfg0.win w).isOut = false) {X} (h : ((dats m 0 c).toRForget fgt).ArrAt w (cfgs 0).N X) :
    X = V m c (Pipeline.arrRef spec0 w) := by
  have e := Pipeline.RDat.ArrAt_in (rd := (dats m 0 c).toRForget fgt) w hw (cfgs 0).N
  rw [show ((dats m 0 c).toRForget fgt).ArrAt w (cfgs 0).N = _ from e] at h
  exact h.trans (A_eq m c w)

theorem arr_out (c : Dev nD) {X} (h : ((dats m 0 c).toRForget fgt).ArrAt 10 (cfgs 0).N X) : X = G m c :=
  ((Dat.toRForget_arrAt_iff (dat := dats m 0 c) (fgt := fgt) (w := 10) rfl _ X).mp h).trans (final10 m c)

set_option maxHeartbeats 4000000 in
/-- The run ends with the first result at `G`, the arguments unchanged and every counter at zero. -/
theorem run : θ_run defs (onTc (τ := τ) (main (F := Ideal))) ⟨m, fun _ => 0, ρ⟩ fun r => (∀ c : Dev nD,
      r.2.mem ((c.tc : Thread nD τ).loc main_v13_0) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0 :=
  (θ_run defs _ _).mono (fun _ h => ⟨fun c => ⟨arr_out m c ((h.1 c).1 10),
      (arr_in m c 0 rfl ((h.1 c).1 0)).trans (V_main_arg0 m c),
      (arr_in m c 1 rfl ((h.1 c).1 1)).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c)⟩, h.2⟩) (run_main m ρ)

end Cert.DxIdeal.Gen
-- ==== Proof.Dx.Ref.lean ====
module

public import proofs.«01_k».proof.Proof.Gen.DxRefIdeal.Value
public import proofs.«01_k».proof.Proof.Dx.Spec
public import Idealize.ShloMosaic.Lib.Pipeline.ValueKit
public import Idealize.ShloMosaic.Lib.Pointwise

@[expose] public section

noncomputable section

namespace Cert.DxRefIdeal.Sum

open Cert.DxRefIdeal Cert.DxRefIdeal.Gen Idealize.ShloMosaic Idealize.ShloMosaic.TcCoe Idealize.SL.Sem

/-- A row of the flattened arrays. -/
def rw2 (b : Fin 12) (s : Fin 2048) : Fin 24576 := ⟨b.val * 2048 + s.val, by omega⟩

theorem rw2_div (b : Fin 12) (s : Fin 2048) (h : (rw2 b s).val / 2048 < 12) : (⟨(rw2 b s).val / 2048, h⟩ : Fin 12) = b :=
  Fin.ext (show (b.val * 2048 + s.val) / 2048 = b.val by omega)
theorem rw2_mod (b : Fin 12) (s : Fin 2048) (h : (rw2 b s).val % 2048 < 2048) : (⟨(rw2 b s).val % 2048, h⟩ : Fin 2048) = s :=
  Fin.ext (show (b.val * 2048 + s.val) % 2048 = s.val by omega)
theorem pos160 (n : ℕ) (h : n / 32 % 5 * 32 + n % 32 < 160) : (⟨n / 32 % 5 * 32 + n % 32, h⟩ : Fin 160) = ⟨n % 160, Nat.mod_lt _ (by decide)⟩ :=
  Fin.ext (show n / 32 % 5 * 32 + n % 32 = n % 160 by omega)

/-- Dividing by 2880 is multiplying by its inverse. -/
theorem div_2880 (x : EReal) : Ideal.div x (Ideal.ofBits .f32 1161035776#32) = x * DxSpec.inv := by
  have h : Ideal.ofBits .f32 1161035776#32 = ((2880 : ℝ) : EReal) := by
    simp [Ideal.ofBits, Ideal.ieee, -EReal.coe_mul]; norm_num
  rw [h, Ideal.div_coe (by norm_num : (2880 : ℝ) ≠ 0)]
  unfold DxSpec.inv
  rfl

set_option maxHeartbeats 2000000 in
/-- The norm's backward, from the flattened factors. -/
theorem pay1_apply (v1 : Vec Ideal S2880x8640 .bf16) (v10 : FVec Ideal S24576x2880 .bf16) (v19 : FVec Ideal S24576x8640 .bf16) (v27 : FVec Ideal S24576x2880 .bf16) (v30 : FVec Ideal S24576x2880 .f32) (v34 : Vec Ideal S2880 .f32) (v38 : Vec Ideal S12x2048 .f32)
    (i : S12x2880x2048.Idx) :
    k0_pay1 (F := Ideal) v1 v10 v19 v27 v30 v34 v38 i
      = DxSpec.row (fun d => (show EReal from v30 (ix2 (rw2 (i 0) (i 2)) d)) + ∑ n : Fin 8640, (show EReal from v19 (ix2 (rw2 (i 0) (i 2)) n)) * (show EReal from v1 (ix2 d n)))
          (fun d => v34 (ix1 d)) (fun d => v27 (ix2 (rw2 (i 0) (i 2)) d)) (v10 (ix2 (rw2 (i 0) (i 2)) (i 1))) (v38 (ix2 (i 0) (i 2))) (i 1) := by
  unfold k0_pay1
  pointwise [dot_S24576x8640_S2880x8640_S24576x2880_1_1_0_0_n_n]
  simp only [div_2880]
  rfl

theorem pay2_apply (a4 : Vec Ideal S12x2048x2880 .fp8e5m2) (a5 : Vec Ideal S12x2048x90 .f32) (b : Fin 12) (s : Fin 2048) (d : Fin 2880) :
    k0_pay2 (F := Ideal) a4 a5 (ix2 (rw2 b s) d) = (show EReal from a4 (ix3 b s d)) * (show EReal from a5 (ix3 b s ⟨d.val / 32, by omega⟩)) := by
  unfold k0_pay2
  pointwise
  simp only [rw2_div, rw2_mod]

theorem pay3_apply (a2 : Vec Ideal S12x2048x3x18x160 .fp8e5m2) (a3 : Vec Ideal S12x2048x3x18x5 .f32) (b : Fin 12) (s : Fin 2048) (n : Fin 8640) :
    k0_pay3 (F := Ideal) a2 a3 (ix2 (rw2 b s) n)
      = (show EReal from a2 (ix5 b s ⟨n.val / 2880, by omega⟩ ⟨n.val / 160 % 18, by omega⟩ ⟨n.val % 160, by omega⟩)) * (show EReal from a3 (ix5 b s ⟨n.val / 2880, by omega⟩ ⟨n.val / 160 % 18, by omega⟩ ⟨n.val / 32 % 5, by omega⟩)) := by
  unfold k0_pay3
  pointwise
  simp only [rw2_div, rw2_mod, pos160]

theorem pay4_apply (a6 : Vec Ideal S12x2048x2880 .fp8e4m3) (a7 : Vec Ideal S12x2048 .f32) (b : Fin 12) (s : Fin 2048) (d : Fin 2880) :
    k0_pay4 (F := Ideal) a6 a7 (ix2 (rw2 b s) d) = (show EReal from a6 (ix3 b s d)) * (show EReal from a7 (ix2 b s)) := by
  unfold k0_pay4
  pointwise
  simp only [rw2_div, rw2_mod]

theorem pay5_apply (v0 : Vec Ideal S2880x7680 .bf16) (a1 : Vec Ideal S12x2048x7680 .bf16) (b : Fin 12) (s : Fin 2048) (d : Fin 2880) :
    k0_pay5 (F := Ideal) v0 a1 (ix2 (rw2 b s) d) = ∑ f : Fin 7680, (show EReal from a1 (ix3 b s f)) * (show EReal from v0 (ix2 d f)) := by
  unfold k0_pay5
  pointwise [dot_S24576x7680_S2880x7680_S24576x2880_1_1_0_0_n_n]
  simp only [rw2_div, rw2_mod]

theorem row_congr {h h' g x x' : Fin 2880 → EReal} {dy dy' r : EReal} {d : Fin 2880} (e1 : ∀ n, h n = h' n) (e2 : ∀ n, x n = x' n) (e3 : dy = dy') :
    DxSpec.row h g x dy r d = DxSpec.row h' g x' dy' r d := by
  rw [funext e1, funext e2, e3]

/-- The reference's result at one index. -/
theorem G10_apply (a0 : Vec Ideal S2880x17280 .bf16) (a1 : Vec Ideal S12x2048x7680 .bf16) (a2 : Vec Ideal S12x2048x3x18x160 .fp8e5m2) (a3 : Vec Ideal S12x2048x3x18x5 .f32) (a4 : Vec Ideal S12x2048x2880 .fp8e5m2) (a5 : Vec Ideal S12x2048x90 .f32) (a6 : Vec Ideal S12x2048x2880 .fp8e4m3) (a7 : Vec Ideal S12x2048 .f32) (a8 : Vec Ideal S12x2048 .f32) (a9 : Vec Ideal S2880 .f32)
    (i : S12x2880x2048.Idx) :
    Value.G10 a0 a1 a2 a3 a4 a5 a6 a7 a8 a9 i
      = DxSpec.row (DxSpec.dh (fun d n => a0 (ix2 d n)) (fun f => a1 (ix3 (i 0) (i 2) f))
            (fun n => (show EReal from a2 (ix5 (i 0) (i 2) ⟨n.val / 2880, by omega⟩ ⟨n.val / 160 % 18, by omega⟩ ⟨n.val % 160, by omega⟩)) * (show EReal from a3 (ix5 (i 0) (i 2) ⟨n.val / 2880, by omega⟩ ⟨n.val / 160 % 18, by omega⟩ ⟨n.val / 32 % 5, by omega⟩))))
          (fun d => a9 (ix1 d)) (fun d => (show EReal from a6 (ix3 (i 0) (i 2) d)) * (show EReal from a7 (ix2 (i 0) (i 2))))
          ((show EReal from a4 (ix3 (i 0) (i 2) (i 1))) * (show EReal from a5 (ix3 (i 0) (i 2) ⟨(i 1).val / 32, Nat.div_lt_of_lt_mul (i 1).isLt⟩))) (a8 (ix2 (i 0) (i 2))) (i 1) := by
  unfold Value.G10
  rw [pay1_apply]
  have hl : ∀ (d : Fin 2880) (f : Fin 7680), View.ld a0 Gen.r0_0 (ix2 d f) = a0 (ix2 d ⟨f.val, by omega⟩) := fun d f => by
    refine congrArg a0 ?_
    funext k; apply Fin.ext
    match k with
    | ⟨0, _⟩ => show 0 + 1 * d.val = d.val; omega
    | ⟨1, _⟩ => show 0 + 1 * f.val = f.val; omega
  have hr : ∀ (d : Fin 2880) (n : Fin 8640), View.ld a0 Gen.r0_1 (ix2 d n) = a0 (ix2 d ⟨7680 + n.val, by omega⟩) := fun d n => by
    refine congrArg a0 ?_
    funext k; apply Fin.ext
    match k with
    | ⟨0, _⟩ => show 0 + 1 * d.val = d.val; omega
    | ⟨1, _⟩ => show 7680 + 1 * n.val = 7680 + n.val; omega
  refine row_congr (fun d => congrArg₂ (· + · : EReal → EReal → EReal) ?_ (Finset.sum_congr rfl fun n _ => ?_)) (fun d => pay4_apply a6 a7 (i 0) (i 2) d) (pay2_apply a4 a5 (i 0) (i 2) (i 1))
  · exact (pay5_apply _ a1 (i 0) (i 2) d).trans (Finset.sum_congr rfl fun f _ => (congrArg₂ (· * · : EReal → EReal → EReal) rfl (hl d f)).trans (mul_comm _ _))
  · exact (congrArg₂ (· * · : EReal → EReal → EReal) (pay3_apply a2 a3 (i 0) (i 2) n) (hr d n)).trans (mul_comm _ _)

end Cert.DxRefIdeal.Sum
-- ==== Proof.Dx.Claim.lean ====
module

public import proofs.«01_k».proof.Defs
public import proofs.«01_k».proof.Proof.Dx.Bits.Frame
public import proofs.«01_k».proof.Proof.Dx.Ideal.Body
public import proofs.«01_k».proof.Proof.Dx.Ref

@[expose] public section

noncomputable section

namespace Cert.Proof

open Idealize.ShloMosaic Idealize.ShloMosaic.TcCoe Idealize.SL.Sem

/-- `dx` at the exact numbers runs and changes no argument. -/
theorem quiescent_Dx : Cert.quiescent_DxIdeal (hDxIdeal := Cert.DxIdeal.Gen.facts) :=
  fun m g _ => (θ_run _ _ _).mono (fun _ h => ⟨fun c => (h.1 c).2, h.2⟩) (Cert.DxIdeal.Gen.run m g)

/-- The one named constant is the mean's factor. -/
theorem preserves_Dx : Cert.preserves_Dx_DxIdeal :=
  IdealRules.named_const.statement Cert.DxIdeal.κ "inv_d" .f32 0x39B60B61#32 ((1 / 2880 : ℝ) : EReal) rfl

/-- `dx`: the norm's backward of the sum carried over the blocks is that of the reference's two products. -/
theorem algebraic_Dx : Cert.algebraic_DxIdeal_DxRefIdeal (hDxIdeal := Cert.DxIdeal.Gen.facts) (hDxRefIdeal := Cert.DxRefIdeal.Gen.facts) := by
  intro m g m' g' _ hag
  refine ⟨fun c => Cert.DxIdeal.Gen.G m c, (θ_run _ _ _).mono (fun r h => h.1) (Cert.DxIdeal.Gen.run m g), (θ_run _ _ _).mono (fun r h c => ?_) (Cert.DxRefIdeal.Value.run m' g')⟩
  obtain ⟨hv, hk⟩ := h c
  refine ⟨hv.trans ?_, hk⟩
  obtain ⟨e0, e1, e2, e3, e4, e5, e6, e7, e8, e9⟩ := hag c
  rw [e0, e1, e2, e3, e4, e5, e6, e7, e8, e9]
  funext i
  exact Cert.DxRefIdeal.Sum.G10_apply _ _ _ _ _ _ _ _ _ _ i

end Cert.Proof
-- ==== Proof.lean ====
/- The claims put together: the frames come from the generated modules (those of dw_qkv and dx from DwQkv/ and
   Dx/), the ideal forms of the weight products are the programs themselves with no rewriting rule used, that of dx names one
   constant, and the value claims are proved in DwOut/, DwIn/, DwQkv/ and Dx/. -/
module

public import proofs.«01_k».proof.Defs
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal.Value
public import proofs.«01_k».proof.Proof.Gen.DwOutRefIdeal
public import proofs.«01_k».proof.Proof.Gen.DwOutRefIdeal.Skeleton
public import proofs.«01_k».proof.Proof.Gen.DwOutRefIdeal.Launch
public import proofs.«01_k».proof.Proof.Gen.DwOutRefIdeal.Points
public import proofs.«01_k».proof.Proof.Gen.DwOutRefIdeal.Frame
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInRefIdeal.Value
public import proofs.«01_k».proof.Proof.Gen.DwInRefIdeal
public import proofs.«01_k».proof.Proof.Gen.DwInRefIdeal.Skeleton
public import proofs.«01_k».proof.Proof.Gen.DwInRefIdeal.Launch
public import proofs.«01_k».proof.Proof.Gen.DwInRefIdeal.Points
public import proofs.«01_k».proof.Proof.Gen.DwInRefIdeal.Frame
public import proofs.«01_k».proof.Proof.DwOut.Claim
public import proofs.«01_k».proof.Proof.DwIn.Claim
public import proofs.«01_k».proof.Proof.DwQkv.Claim
public import proofs.«01_k».proof.Proof.Dx.Claim
public import proofs.«01_k».proof.Proof.Gen.DwQkvRefIdeal.Value
public import proofs.«01_k».proof.Proof.Gen.DxRefIdeal.Value
public import Idealize.ShloMosaic.Adequacy
public import Idealize.ShloMosaic.Init

@[expose] public section

noncomputable section

namespace Cert.Proof

open Idealize.ShloMosaic Idealize.SL.Sem Cert.DwOut

theorem claim : Cert.Claim :=
  ⟨Cert.DwOut.Gen.facts, Cert.DwOutIdeal.Gen.facts, Cert.DwOutRefIdeal.Gen.facts, Cert.DwIn.Gen.facts, Cert.DwInIdeal.Gen.facts, Cert.DwInRefIdeal.Gen.facts, Cert.DwQkv.Gen.facts, Cert.DwQkvIdeal.Gen.facts, Cert.DwQkvRefIdeal.Gen.facts, Cert.Dx.Gen.facts, Cert.DxIdeal.Gen.facts, Cert.DxRefIdeal.Gen.facts,
    fun m ρ _ => Cert.DwOut.Gen.frame m ρ,
    fun m ρ _ => Cert.DwOutIdeal.Gen.frame m ρ,
    fun m ρ _ => Cert.DwOutRefIdeal.Gen.frame m ρ,
    fun m ρ _ => Cert.DwIn.Gen.frame m ρ,
    fun m ρ _ => Cert.DwInIdeal.Gen.frame m ρ,
    fun m ρ _ => Cert.DwInRefIdeal.Gen.frame m ρ,
    fun m ρ _ => Cert.DwQkv.Gen.frame m ρ, quiescent_DwQkv, fun m ρ _ => Cert.DwQkvRefIdeal.Gen.frame m ρ,
    fun m ρ _ => Cert.Dx.Gen.frame m ρ, quiescent_Dx, fun m ρ _ => Cert.DxRefIdeal.Gen.frame m ρ,
    trivial, algebraic_DwOut, trivial, algebraic_DwIn, trivial, algebraic_DwQkv,
    preserves_Dx, algebraic_Dx⟩

end Cert.Proof

end
